-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x512 : Shape := ⟨2, ![1024, 512]⟩
abbrev S8x64x512 : Shape := ⟨3, ![8, 64, 512]⟩
abbrev S8 : Shape := ⟨1, ![8]⟩
abbrev S16 : Shape := ⟨1, ![16]⟩
abbrev S_ : Shape := ⟨0, ![]⟩
abbrev S1 : Shape := ⟨1, ![1]⟩
abbrev S1x64x512 : Shape := ⟨3, ![1, 64, 512]⟩
abbrev S64x512 : Shape := ⟨2, ![64, 512]⟩

abbrev nBuf : Space → Nat
  | .hbm => 2
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .bf16⟩
  | .local _ .vmem, ⟨0, _⟩ => ⟨S8x64x512, .f32⟩
  | .local _ .vmem, ⟨1, _⟩ => ⟨S8x64x512, .f32⟩
  | .local _ .vmem, ⟨2, _⟩ => ⟨S8x64x512, .bf16⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_9 : BitVec 32 := 1#32
  let v15 : BitVec 32 := Scalar.muli v7 c1_i32_9
  let v16 : BitVec 32 := Scalar.addi v14 v15
  v16.toNat
def k0_dev2 (d0 : Dev nD) : Nat :=
  let c0_i32_12 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_11 : BitVec 32 := 2#32
  let v17 : BitVec 32 := Scalar.muli v6 c2_i32_11
  let v18 : BitVec 32 := Scalar.addi c0_i32_12 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v19 : BitVec 32 := Scalar.muli v5 c1_i32_13
  let v20 : BitVec 32 := Scalar.addi v18 v19
  v20.toNat
def k0_off1 (d0 : Dev nD) (c0_i32_14 : BitVec 32) : Fin 3 → Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v21 : BitVec 32 := Scalar.addi v8 c0_i32_14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32_6 : BitVec 32 := 512#32
  let v11 : BitVec 32 := Scalar.muli v7 c512_i32_6
  ![0, v21.toNat, v11.toNat]
def k0_off2 (d0 : Dev nD) (c0_i32_50 : BitVec 32) : Fin 3 → Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v77 : BitVec 32 := Scalar.addi v8 c0_i32_50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_5 : BitVec 32 := 512#32
  let v10 : BitVec 32 := Scalar.muli v5 c512_i32_5
  ![0, v77.toNat, v10.toNat]
def k0_dev3 (d0 : Dev nD) : Nat :=
  let c0_i32_114 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_113 : BitVec 32 := 2#32
  let v145 : BitVec 32 := Scalar.muli v2 c2_i32_113
  let v146 : BitVec 32 := Scalar.addi c0_i32_114 v145
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_115 : BitVec 32 := 1#32
  let v147 : BitVec 32 := Scalar.muli v7 c1_i32_115
  let v148 : BitVec 32 := Scalar.addi v146 v147
  v148.toNat
def k0_dev4 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v169 : BitVec 32 := Scalar.muli v2 c2_i32_134
  let v170 : BitVec 32 := Scalar.addi c0_i32_135 v169
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_136 : BitVec 32 := 1#32
  let v171 : BitVec 32 := Scalar.muli v7 c1_i32_136
  let v172 : BitVec 32 := Scalar.addi v170 v171
  v172.toNat
def k0_dev5 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_155 : BitVec 32 := 2#32
  let v193 : BitVec 32 := Scalar.muli v2 c2_i32_155
  let v194 : BitVec 32 := Scalar.addi c0_i32_156 v193
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_157 : BitVec 32 := 1#32
  let v195 : BitVec 32 := Scalar.muli v7 c1_i32_157
  let v196 : BitVec 32 := Scalar.addi v194 v195
  v196.toNat
def k0_dev6 (d0 : Dev nD) : Nat :=
  let c0_i32_177 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_176 : BitVec 32 := 2#32
  let v217 : BitVec 32 := Scalar.muli v2 c2_i32_176
  let v218 : BitVec 32 := Scalar.addi c0_i32_177 v217
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_178 : BitVec 32 := 1#32
  let v219 : BitVec 32 := Scalar.muli v7 c1_i32_178
  let v220 : BitVec 32 := Scalar.addi v218 v219
  v220.toNat
def k0_dev7 (d0 : Dev nD) : Nat :=
  let c0_i32_198 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_197 : BitVec 32 := 2#32
  let v241 : BitVec 32 := Scalar.muli v2 c2_i32_197
  let v242 : BitVec 32 := Scalar.addi c0_i32_198 v241
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_199 : BitVec 32 := 1#32
  let v243 : BitVec 32 := Scalar.muli v7 c1_i32_199
  let v244 : BitVec 32 := Scalar.addi v242 v243
  v244.toNat
def k0_dev8 (d0 : Dev nD) : Nat :=
  let c0_i32_219 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_218 : BitVec 32 := 2#32
  let v265 : BitVec 32 := Scalar.muli v2 c2_i32_218
  let v266 : BitVec 32 := Scalar.addi c0_i32_219 v265
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_220 : BitVec 32 := 1#32
  let v267 : BitVec 32 := Scalar.muli v7 c1_i32_220
  let v268 : BitVec 32 := Scalar.addi v266 v267
  v268.toNat
def k0_dev9 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_239 : BitVec 32 := 2#32
  let v289 : BitVec 32 := Scalar.muli v2 c2_i32_239
  let v290 : BitVec 32 := Scalar.addi c0_i32_240 v289
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_241 : BitVec 32 := 1#32
  let v291 : BitVec 32 := Scalar.muli v7 c1_i32_241
  let v292 : BitVec 32 := Scalar.addi v290 v291
  v292.toNat
def k0_dev10 (d0 : Dev nD) : Nat :=
  let c0_i32_261 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_260 : BitVec 32 := 2#32
  let v313 : BitVec 32 := Scalar.muli v2 c2_i32_260
  let v314 : BitVec 32 := Scalar.addi c0_i32_261 v313
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_262 : BitVec 32 := 1#32
  let v315 : BitVec 32 := Scalar.muli v7 c1_i32_262
  let v316 : BitVec 32 := Scalar.addi v314 v315
  v316.toNat
def k0_dev11 (d0 : Dev nD) : Nat :=
  let c0_i32_297 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_296 : BitVec 32 := 2#32
  let v350 : BitVec 32 := Scalar.muli v6 c2_i32_296
  let v351 : BitVec 32 := Scalar.addi c0_i32_297 v350
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_298 : BitVec 32 := 1#32
  let v352 : BitVec 32 := Scalar.muli v5 c1_i32_298
  let v353 : BitVec 32 := Scalar.addi v351 v352
  v353.toNat
def k0_off3 (d0 : Dev nD) (c0_i32_303 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v362 : BitVec 32 := Scalar.addi v8 c0_i32_303
  let c0_i32_306 : BitVec 32 := 0#32
  ![v362.toNat, 0]
def k0_dev12 (d0 : Dev nD) : Nat :=
  let c0_i32_339 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_338 : BitVec 32 := 2#32
  let v393 : BitVec 32 := Scalar.muli v6 c2_i32_338
  let v394 : BitVec 32 := Scalar.addi c0_i32_339 v393
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_340 : BitVec 32 := 1#32
  let v395 : BitVec 32 := Scalar.muli v5 c1_i32_340
  let v396 : BitVec 32 := Scalar.addi v394 v395
  v396.toNat
def k0_dev13 (d0 : Dev nD) : Nat :=
  let c0_i32_381 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_380 : BitVec 32 := 2#32
  let v436 : BitVec 32 := Scalar.muli v6 c2_i32_380
  let v437 : BitVec 32 := Scalar.addi c0_i32_381 v436
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_382 : BitVec 32 := 1#32
  let v438 : BitVec 32 := Scalar.muli v5 c1_i32_382
  let v439 : BitVec 32 := Scalar.addi v437 v438
  v439.toNat
def k0_dev14 (d0 : Dev nD) : Nat :=
  let c0_i32_423 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_422 : BitVec 32 := 2#32
  let v479 : BitVec 32 := Scalar.muli v6 c2_i32_422
  let v480 : BitVec 32 := Scalar.addi c0_i32_423 v479
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_424 : BitVec 32 := 1#32
  let v481 : BitVec 32 := Scalar.muli v5 c1_i32_424
  let v482 : BitVec 32 := Scalar.addi v480 v481
  v482.toNat
def k0_dev15 (d0 : Dev nD) : Nat :=
  let c0_i32_465 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_464 : BitVec 32 := 2#32
  let v522 : BitVec 32 := Scalar.muli v6 c2_i32_464
  let v523 : BitVec 32 := Scalar.addi c0_i32_465 v522
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_466 : BitVec 32 := 1#32
  let v524 : BitVec 32 := Scalar.muli v5 c1_i32_466
  let v525 : BitVec 32 := Scalar.addi v523 v524
  v525.toNat
def k0_dev16 (d0 : Dev nD) : Nat :=
  let c0_i32_507 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_506 : BitVec 32 := 2#32
  let v565 : BitVec 32 := Scalar.muli v6 c2_i32_506
  let v566 : BitVec 32 := Scalar.addi c0_i32_507 v565
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_508 : BitVec 32 := 1#32
  let v567 : BitVec 32 := Scalar.muli v5 c1_i32_508
  let v568 : BitVec 32 := Scalar.addi v566 v567
  v568.toNat
def k0_dev17 (d0 : Dev nD) : Nat :=
  let c0_i32_549 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_548 : BitVec 32 := 2#32
  let v608 : BitVec 32 := Scalar.muli v6 c2_i32_548
  let v609 : BitVec 32 := Scalar.addi c0_i32_549 v608
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_550 : BitVec 32 := 1#32
  let v610 : BitVec 32 := Scalar.muli v5 c1_i32_550
  let v611 : BitVec 32 := Scalar.addi v609 v610
  v611.toNat
def k0_dev18 (d0 : Dev nD) : Nat :=
  let c0_i32_591 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_590 : BitVec 32 := 2#32
  let v651 : BitVec 32 := Scalar.muli v6 c2_i32_590
  let v652 : BitVec 32 := Scalar.addi c0_i32_591 v651
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_592 : BitVec 32 := 1#32
  let v653 : BitVec 32 := Scalar.muli v5 c1_i32_592
  let v654 : BitVec 32 := Scalar.addi v652 v653
  v654.toNat
def k0_off4 (d0 : Dev nD) (c0_i32_614 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_4 : BitVec 32 := 512#32
  let v9 : BitVec 32 := Scalar.muli v6 c512_i32_4
  let v679 : BitVec 32 := Scalar.addi v9 c0_i32_614
  let c0_i32_616 : BitVec 32 := 0#32
  ![v679.toNat, 0]
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | .hbm, ⟨3, _⟩ => ⟨S1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Staged.lean ====
/-
# The kernel body as stages over its eight row chunks

The printed body is one straight line of effects. Here it is written as a prologue of two signals followed by eight
loops over the row chunks, each loop one stage repeated: start the two reads of a chunk, send it to the column
neighbour, add what comes back and send the sum to the row neighbour, place the sums in the result, and drain the
semaphores. The last theorem says that the printed body is this program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.MeshReduce

open Cert.KernelIdeal Cert.KernelIdeal.Gen
open Idealize.ShloMosaic Idealize.SL.Sem

variable {F : FTy → Type} [FloatOps F]

/-! ## The pieces a stage names -/

/-- The `k`-th DMA semaphore of the `f`-th family of eight: reads of the neighbour's columns (0), reads of the own
    columns (1), column send (2) and receive (3), row send (4) and receive (5), writes of the own rows of the result (6)
    and of the other rows (7). -/
def dsem (f k : Fin 8) : DmaSem sig := (⟨8 * f.val + k.val, by omega⟩ : Fin 64)

theorem slot_inb (k : Fin 8) : ∀ a, (![k.val, 0, 0] : Fin 3 → Nat) a + S1x64x512.size a ≤ S8x64x512.size a := by
  revert k; decide
/-- The rectangle of slot `k` of an eight-slot buffer. -/
abbrev slotR (k : Fin 8) : Rect S8x64x512 := Rect.unit (s := S8x64x512) ![k.val, 0, 0] S1x64x512.size (slot_inb k)

theorem slot_words (k : Fin 8) : (slotR k).WholeWords (EltTy.packing .bf16) := by
  fin_cases k
  · exact wordsbf16_S8x64x512_S1x64x512_0_0_0
  · exact wordsbf16_S8x64x512_S1x64x512_1_0_0
  · exact wordsbf16_S8x64x512_S1x64x512_2_0_0
  · exact wordsbf16_S8x64x512_S1x64x512_3_0_0
  · exact wordsbf16_S8x64x512_S1x64x512_4_0_0
  · exact wordsbf16_S8x64x512_S1x64x512_5_0_0
  · exact wordsbf16_S8x64x512_S1x64x512_6_0_0
  · exact wordsbf16_S8x64x512_S1x64x512_7_0_0

/-- Slot `k` of an eight-slot buffer, as a 64 by 512 array. -/
abbrev slot {e : EltTy} (m : Memref sig .tc .vmem S8x64x512 e) (k : Fin 8) : Memref sig .tc .vmem S64x512 e :=
  (m.slice (slotR k) (fun _ => rfl)).squeeze S64x512 squeezes_S1x64x512_S64x512

theorem slot_wordExact {m : Memref sig .tc .vmem S8x64x512 .bf16} (hm : m.IsWhole) (k : Fin 8) : (slot m k).view.WordExact :=
  (hm.wordExact_slice rfl _ (slot_words k)).reshape _ _

abbrev vpM : Memref sig .tc .vmem S8x64x512 .f32 := Memref.whole cc0_scratch0
abbrev vmM : Memref sig .tc .vmem S8x64x512 .f32 := Memref.whole cc0_scratch1
abbrev syM : Memref sig .tc .vmem S8x64x512 .bf16 := Memref.whole cc0_scratch2
abbrev ryM : Memref sig .tc .vmem S8x64x512 .bf16 := Memref.whole cc0_scratch3
abbrev sxM : Memref sig .tc .vmem S8x64x512 .bf16 := Memref.whole cc0_scratch4
abbrev rxM : Memref sig .tc .vmem S8x64x512 .bf16 := Memref.whole cc0_scratch5
abbrev xM : Memref sig .tc .hbm S1x1024x1024 .f32 := Memref.whole main_arg0
abbrev oM : Memref sig .tc .hbm S1024x512 .bf16 := Memref.whole main_v1

/-- The block of the argument read for the neighbour: chunk `k` of device `d`'s rows, the neighbour's columns. -/
abbrev srcP (d : Dev nD) (k : Fin 8) : Memref sig .tc .hbm S64x512 .f32 :=
  (xM.slice (Rect.unit (s := S1x1024x1024) (k0_off1 d (BitVec.ofNat 32 (64 * k.val))) S1x64x512.size (k0_off1_inb d k)) (fun _ => rfl)).squeeze
    S64x512 squeezes_S1x64x512_S64x512
/-- The block of the argument kept: chunk `k` of device `d`'s rows, its own columns. -/
abbrev srcM (d : Dev nD) (k : Fin 8) : Memref sig .tc .hbm S64x512 .f32 :=
  (xM.slice (Rect.unit (s := S1x1024x1024) (k0_off2 d (BitVec.ofNat 32 (64 * k.val))) S1x64x512.size (k0_off2_inb d k)) (fun _ => rfl)).squeeze
    S64x512 squeezes_S1x64x512_S64x512
/-- Chunk `k` of the rows of the result that device `d` computes. -/
abbrev outO (d : Dev nD) (k : Fin 8) : Memref sig .tc .hbm S64x512 .bf16 :=
  oM.slice (Rect.unit (s := S1024x512) (k0_off3 d (BitVec.ofNat 32 (64 * k.val))) S64x512.size (k0_off3_inb d k)) (fun _ => rfl)
/-- Chunk `k` of the rows of the result that device `d`'s row neighbour computes. -/
abbrev outX (d : Dev nD) (k : Fin 8) : Memref sig .tc .hbm S64x512 .bf16 :=
  oM.slice (Rect.unit (s := S1024x512) (k0_off4 d (BitVec.ofNat 32 (64 * k.val))) S64x512.size (k0_off4_inb d k)) (fun _ => rfl)

theorem outO_wordExact (d : Dev nD) (k : Fin 8) : (outO d k).view.WordExact :=
  (Memref.isWhole_whole main_v1).wordExact_slice rfl _ (k0_off3_wordsbf16 d k)
theorem outX_wordExact (d : Dev nD) (k : Fin 8) : (outX d k).view.WordExact :=
  (Memref.isWhole_whole main_v1).wordExact_slice rfl _ (k0_off4_wordsbf16 d k)
theorem srcP_wordExact (d : Dev nD) (k : Fin 8) : (srcP d k).view.WordExact := (View.wordExact_bits rfl).reshape _ _
theorem srcM_wordExact (d : Dev nD) (k : Fin 8) : (srcM d k).view.WordExact := (View.wordExact_bits rfl).reshape _ _
theorem slotF_wordExact (m : Memref sig .tc .vmem S8x64x512 .f32) (k : Fin 8) : (slot m k).view.WordExact := (View.wordExact_bits rfl).reshape _ _

/-- The device the column transfers of `d` address, as the program computes it. -/
abbrev devY (d : Dev nD) : Dev nD := ⟨k0_dev3 d, k0_dev3_lt d⟩
/-- The device the row transfers of `d` address, as the program computes it. -/
abbrev devX (d : Dev nD) : Dev nD := ⟨k0_dev11 d, k0_dev11_lt d⟩

theorem slot_stores {m : Memref sig .tc .vmem S8x64x512 .bf16} (hm : m.IsWhole) (k : Fin 8) : (m.access (slotR k)).Stores Finset.univ := by
  fin_cases k
  · exact View.stores_vmem h_S1x64x512 (hm.storeExact_slice rfl _ packedbf16_S8x64x512_S1x64x512_0_0_0) (fun _ => rfl)
  · exact View.stores_vmem h_S1x64x512 (hm.storeExact_slice rfl _ packedbf16_S8x64x512_S1x64x512_1_0_0) (fun _ => rfl)
  · exact View.stores_vmem h_S1x64x512 (hm.storeExact_slice rfl _ packedbf16_S8x64x512_S1x64x512_2_0_0) (fun _ => rfl)
  · exact View.stores_vmem h_S1x64x512 (hm.storeExact_slice rfl _ packedbf16_S8x64x512_S1x64x512_3_0_0) (fun _ => rfl)
  · exact View.stores_vmem h_S1x64x512 (hm.storeExact_slice rfl _ packedbf16_S8x64x512_S1x64x512_4_0_0) (fun _ => rfl)
  · exact View.stores_vmem h_S1x64x512 (hm.storeExact_slice rfl _ packedbf16_S8x64x512_S1x64x512_5_0_0) (fun _ => rfl)
  · exact View.stores_vmem h_S1x64x512 (hm.storeExact_slice rfl _ packedbf16_S8x64x512_S1x64x512_6_0_0) (fun _ => rfl)
  · exact View.stores_vmem h_S1x64x512 (hm.storeExact_slice rfl _ packedbf16_S8x64x512_S1x64x512_7_0_0) (fun _ => rfl)

/-! ## The stages -/

/-- The programs of the kernel's effects. -/
abbrev P (F : FTy → Type) [FloatOps F] : Type 1 := Prog (TpuEff nD τ sig (Elt F) Λ₀ .tc) PUnit

/-- The runtime's barrier semaphore. -/
abbrev barS : Sem sig := (SemArray.scalar (sig.barrier 0 rfl) : Sems sig S_).sem

/-- Start the read of chunk `k` for the neighbour. -/
def startP (d : Dev nD) (k : Fin 8) : P F :=
  Prog.lift (.enqueueDma (srcP d k) (.here (slot vpM k)) (.dma (dsem 0 k)) (srcP_wordExact d k) (slotF_wordExact vpM k) ⟨Or.inl rfl, trivial⟩)
/-- Start the read of chunk `k` to keep. -/
def startM (d : Dev nD) (k : Fin 8) : P F :=
  Prog.lift (.enqueueDma (srcM d k) (.here (slot vmM k)) (.dma (dsem 1 k)) (srcM_wordExact d k) (slotF_wordExact vmM k) ⟨Or.inl rfl, trivial⟩)
/-- Round chunk `k` and send it to the column neighbour. -/
def sendY (d : Dev nD) (k : Fin 8) : P F := do
  Prog.lift (.waitDma2 (dsem 0 k) (srcP d k) (slot vpM k) (srcP_wordExact d k) (slotF_wordExact vpM k))
  let v : Vec F S1x64x512 .f32 ← Prog.lift (.load vpM (slotR k).toLoadRect (View.loadsAt_vmem h_S1x64x512))
  let _ : Vec F S1x64x512 .bf16 ← Prog.lift (.load syM (slotR k).toLoadRect (View.loadsAt_vmem h_S1x64x512))
  Prog.lift (.store syM (slotR k) (k0_pay1 v) Finset.univ (slot_stores (Memref.isWhole_whole _) k) (.inl rfl))
  Prog.lift (.enqueueDma (slot syM k) (.remote (Dev.tc (devY d)) (slot ryM k) (.dma (dsem 2 k))) (.dma (dsem 3 k))
    (slot_wordExact (Memref.isWhole_whole _) k) (slot_wordExact (Memref.isWhole_whole _) k) ⟨⟨rfl, Or.inl rfl⟩, trivial⟩)
/-- Add what the column neighbour sent of chunk `k` to the own part, send the sum to the row neighbour and write it
    to the result. -/
def sendX (d : Dev nD) (k : Fin 8) : P F := do
  Prog.lift (.waitDma2 (dsem 3 k) (slot syM k) (slot ryM k) (slot_wordExact (Memref.isWhole_whole _) k) (slot_wordExact (Memref.isWhole_whole _) k))
  Prog.lift (.waitDma2 (dsem 1 k) (srcM d k) (slot vmM k) (srcM_wordExact d k) (slotF_wordExact vmM k))
  let v : Vec F S1x64x512 .f32 ← Prog.lift (.load vmM (slotR k).toLoadRect (View.loadsAt_vmem h_S1x64x512))
  let w : Vec F S1x64x512 .bf16 ← Prog.lift (.load ryM (slotR k).toLoadRect (View.loadsAt_vmem h_S1x64x512))
  let _ : Vec F S1x64x512 .bf16 ← Prog.lift (.load sxM (slotR k).toLoadRect (View.loadsAt_vmem h_S1x64x512))
  Prog.lift (.store sxM (slotR k) (k0_pay9 v w) Finset.univ (slot_stores (Memref.isWhole_whole _) k) (.inl rfl))
  Prog.lift (.enqueueDma (slot sxM k) (.remote (Dev.tc (devX d)) (slot rxM k) (.dma (dsem 4 k))) (.dma (dsem 5 k))
    (slot_wordExact (Memref.isWhole_whole _) k) (slot_wordExact (Memref.isWhole_whole _) k) ⟨⟨rfl, Or.inl rfl⟩, trivial⟩)
  Prog.lift (.enqueueDma (slot sxM k) (.here (outO d k)) (.dma (dsem 6 k)) (slot_wordExact (Memref.isWhole_whole _) k) (outO_wordExact d k) ⟨Or.inl rfl, trivial⟩)
/-- Write what the row neighbour sent of chunk `k` to the result. -/
def placeX (d : Dev nD) (k : Fin 8) : P F := do
  Prog.lift (.waitDma2 (dsem 5 k) (slot sxM k) (slot rxM k) (slot_wordExact (Memref.isWhole_whole _) k) (slot_wordExact (Memref.isWhole_whole _) k))
  Prog.lift (.enqueueDma (slot rxM k) (.here (outX d k)) (.dma (dsem 7 k)) (slot_wordExact (Memref.isWhole_whole _) k) (outX_wordExact d k) ⟨Or.inl rfl, trivial⟩)
/-- Wait for the write of chunk `k` of the own rows. -/
def drainO (d : Dev nD) (k : Fin 8) : P F :=
  Prog.lift (.waitDma2 (dsem 6 k) (slot sxM k) (outO d k) (slot_wordExact (Memref.isWhole_whole _) k) (outO_wordExact d k))
/-- Wait for the write of chunk `k` of the other rows. -/
def drainX (d : Dev nD) (k : Fin 8) : P F :=
  Prog.lift (.waitDma2 (dsem 7 k) (slot rxM k) (outX d k) (slot_wordExact (Memref.isWhole_whole _) k) (outX_wordExact d k))
/-- Wait for chunk `k`'s two sends. -/
def drainS (k : Fin 8) : P F := do
  Prog.lift (.waitDma2 (dsem 2 k) (slot ryM k) (slot syM k) (slot_wordExact (Memref.isWhole_whole _) k) (slot_wordExact (Memref.isWhole_whole _) k))
  Prog.lift (.waitDma2 (dsem 4 k) (slot rxM k) (slot sxM k) (slot_wordExact (Memref.isWhole_whole _) k) (slot_wordExact (Memref.isWhole_whole _) k))

/-- A stage over a list of chunks, in order. -/
def loop (b : Fin 8 → P F) : List (Fin 8) → P F
  | [] => .ret ⟨⟩
  | k :: L => (b k).bind fun _ => loop b L

/-- All eight chunks, in order. -/
abbrev all : List (Fin 8) := [0, 1, 2, 3, 4, 5, 6, 7]

/-- The body as stages. -/
def staged : P F := do
  let d ← Prog.lift .deviceId
  semSignalWord (⟨k0_dev1 d, k0_dev1_lt d⟩ : Dev nD) barS 1#32
  semSignalWord (⟨k0_dev2 d, k0_dev2_lt d⟩ : Dev nD) barS 1#32
  loop (startP d) all
  loop (startM d) all
  semWaitWord barS 2#32
  loop (sendY d) all
  loop (sendX d) all
  loop (placeX d) all
  loop (drainO d) all
  loop (drainX d) all
  loop drainS all

set_option maxRecDepth 100000 in
/-- The printed body on the buffers it is launched with is the staged one. -/
theorem body_eq_staged :
    (cc0_body (Memref.whole main_arg0) (Memref.isWhole_whole _) (Memref.whole main_v1) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) cc0_scratch6 cc0_scratch7 cc0_scratch8 cc0_scratch9
      cc0_scratch10 cc0_scratch11 cc0_scratch12 : P F) = staged := by
  chain_rfl

end Cert.MeshReduce

end
-- ==== Proof.Protocol.lean ====
/-
# The protocol of the mesh reduction

What each chunk's buffers hold, and what every semaphore hands over: one round on every cell. A DMA cell's one duty is
paid by the transfer that completes on it; the barrier cell's two duties are paid by the two neighbours, each handing
over the receive buffer the sender will write to.
-/
module

public import proofs.«01_k».proof.Proof.Staged
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.ShareLeaves
public import Idealize.ShloMosaic.Lib.Tactic

@[expose] public section

noncomputable section

namespace Cert.MeshReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

/-- The pipeline's copy of the rounds algebra, and the protocol's. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh -/

/-- The device in the other column of the same row. -/
def peerY (c : Dev nD) : Dev nD := ⟨2 * (c.val / 2) + 1 - c.val % 2, by have : c.val < 4 := c.isLt; show _ < 4; omega⟩
/-- The device in the other row of the same column. -/
def peerX (c : Dev nD) : Dev nD := ⟨c.val % 2 + 2 - 2 * (c.val / 2), by have : c.val < 4 := c.isLt; show _ < 4; omega⟩

theorem peerY_peerY (c : Dev nD) : peerY (peerY c) = c := by revert c; decide
theorem peerX_peerX (c : Dev nD) : peerX (peerX c) = c := by revert c; decide

theorem devY_eq (c : Dev nD) : devY c = peerY c := Fin.ext (k0_dev3_eq c)
theorem devX_eq (c : Dev nD) : devX c = peerX c := Fin.ext (k0_dev11_eq c)
theorem sigY_eq (c : Dev nD) : (⟨k0_dev1 c, k0_dev1_lt c⟩ : Dev nD) = peerY c := Fin.ext (k0_dev1_eq c)
theorem sigX_eq (c : Dev nD) : (⟨k0_dev2 c, k0_dev2_lt c⟩ : Dev nD) = peerX c := Fin.ext (k0_dev2_eq c)

/-- Exchange of the columns, exchange of the rows. -/
def flipY : Dev nD ≃ Dev nD := ⟨peerY, peerY, peerY_peerY, peerY_peerY⟩
def flipX : Dev nD ≃ Dev nD := ⟨peerX, peerX, peerX_peerX, peerX_peerX⟩

/-! ## What the buffers hold -/

/-- A one-deep slab of the chunk `X`. -/
def slab {e : EltTy} (X : Vec F S64x512 e) : Vec F S1x64x512 e := fun y => X ((Shape.reshapeEquiv squeezes_S1x64x512_S64x512.numel_eq).symm y)
/-- The chunk in a one-deep slab. -/
def unslab {e : EltTy} (v : Vec F S1x64x512 e) : Vec F S64x512 e := fun y => v (Shape.reshapeEquiv squeezes_S1x64x512_S64x512.numel_eq y)

theorem slab_unslab {e : EltTy} (v : Vec F S1x64x512 e) : slab (unslab v) = v := funext fun y => by simp [slab, unslab]

/-- The argument on device `c`. -/
abbrev xs (c : Dev nD) : Buf (Elt F) ((c : Thread nD τ).loc main_arg0) := m ((c : Thread nD τ).loc main_arg0)

/-- Chunk `k` of the argument that `c` reads for its column neighbour; -/
def hp (c : Dev nD) (k : Fin 8) : Vec F S64x512 .f32 := (srcP c k).view.read (Elt F) (xs m c)
/-- the chunk it keeps; -/
def hm (c : Dev nD) (k : Fin 8) : Vec F S64x512 .f32 := (srcM c k).view.read (Elt F) (xs m c)
/-- the chunk it sends to its column neighbour; -/
def sy (c : Dev nD) (k : Fin 8) : Vec F S64x512 .bf16 := unslab (k0_pay1 (slab (hp m c k)))
/-- the sum it makes of its own part and what it receives. -/
def sx (c : Dev nD) (k : Fin 8) : Vec F S64x512 .bf16 := unslab (k0_pay9 (slab (hm m c k)) (slab (sy m (peerY c) k)))

/-! ## Holding a piece of a buffer -/

/-- Device `c` holds the share `q` of the piece `M` of its memory, which reads `X`. -/
def held {sp : Space} {s : Shape} {e : EltTy} (M : Memref sig .tc sp s e) (c : Dev nD) (q : PosShare TreeShare) (X : s.Idx → Elt F e) : sProp 𝕄 :=
  M.view.loc (c : Thread nD τ) ↦[M.view.set]{q} M.view.rep X
/-- Device `c` holds the piece `M` whole, at contents unknown. -/
def free {sp : Space} {s : Shape} {e : EltTy} (M : Memref sig .tc sp s e) (c : Dev nD) : sProp 𝕄 :=
  iprop(∃ f : Buf (Elt F) (M.view.loc (c : Thread nD τ)), M.view.loc (c : Thread nD τ) ↦[M.view.set]{fullShare} f)

instance held_storable {sp : Space} {s : Shape} {e : EltTy} (M : Memref sig .tc sp s e) (c : Dev nD) (q : PosShare TreeShare) (X : s.Idx → Elt F e) :
    BI.Storable (upEmb : UEmb _ 𝕄) (held (F := F) M c q X) := by unfold held; infer_instance
instance free_storable {sp : Space} {s : Shape} {e : EltTy} (M : Memref sig .tc sp s e) (c : Dev nD) :
    BI.Storable (upEmb : UEmb _ 𝕄) (free (F := F) M c) := by unfold free; infer_instance

/-- A piece held at known contents is held at some contents. -/
theorem held_free {sp : Space} {s : Shape} {e : EltTy} (M : Memref sig .tc sp s e) (c : Dev nD) (X : s.Idx → Elt F e) :
    held (F := F) M c fullShare X ⊢ free M c := by
  unfold held free; iintro H; iexists _; iexact H

/-- A piece held at contents reading `X` is held at `X`. -/
theorem held_of_read {sp : Space} {s : Shape} {e : EltTy} (M : Memref sig .tc sp s e) (c : Dev nD) (q : PosShare TreeShare) (X : s.Idx → Elt F e)
    (g : Buf (Elt F) (M.view.loc (c : Thread nD τ))) (h : M.view.read (Elt F) g = X) :
    (M.view.loc (c : Thread nD τ) ↦[M.view.set]{q} g : sProp 𝕄) ⊢ held M c q X :=
  pointsTo_rep_of_read (c : Thread nD τ) M g q X h

/-- A piece held at `X` is its two half shares. -/
theorem held_halves {sp : Space} {s : Shape} {e : EltTy} (M : Memref sig .tc sp s e) (c : Dev nD) (X : s.Idx → Elt F e) :
    held (F := F) M c fullShare X ⊣⊢ iprop(held M c fullShare.left X ∗ held M c fullShare.right X) :=
  pointsTo_share (PosShare.mem_left_op_right fullShare)

/-- The read share of the argument lent to the read of chunk `k` for the neighbour, and to the one to keep. -/
abbrev shP (k : Fin 8) : PosShare TreeShare := ShareLeaves.leaf 3 fullShare.left k
abbrev shM (k : Fin 8) : PosShare TreeShare := ShareLeaves.leaf 3 fullShare.right k

/-! ## The cells -/

/-- A device's cells: the barrier, and the eight families of eight DMA semaphores. -/
abbrev CI : Type := Option (Fin 8 × Fin 8)
def csem : CI → SemLoc sig
  | none => .reg barS
  | some (f, k) => .dma (dsem f k)
def kcell (ck : Dev nD × CI) : GSem nD τ sig := ((ck.1 : Thread nD τ), csem ck.2)
abbrev barCell (c : Dev nD) : GSem nD τ sig := ((c : Thread nD τ), .reg barS)
abbrev dcell (c : Dev nD) (f k : Fin 8) : GSem nD τ sig := ((c : Thread nD τ), .dma (dsem f k))

/-- The family and the chunk of a DMA semaphore. -/
def fam (i : DmaSem sig) : Fin 8 := ⟨i.val / 8, by have h : i.val < 64 := i.isLt; omega⟩
def chunk (i : DmaSem sig) : Fin 8 := ⟨i.val % 8, by omega⟩
theorem fam_dsem (f k : Fin 8) : fam (dsem f k) = f := Fin.ext (by show (8 * f.val + k.val) / 8 = f.val; omega)
theorem chunk_dsem (f k : Fin 8) : chunk (dsem f k) = k := Fin.ext (by show (8 * f.val + k.val) % 8 = k.val; omega)

theorem dsem_inj {f k f' k' : Fin 8} (h : dsem f k = dsem f' k') : f = f' ∧ k = k' :=
  ⟨by rw [← fam_dsem f k, h, fam_dsem], by rw [← chunk_dsem f k, h, chunk_dsem]⟩
theorem csem_injective : Function.Injective csem := fun a b h => by
  match a, b, h with
  | none, none, _ => rfl
  | some (f, k), some (f', k'), h =>
    obtain ⟨h₁, h₂⟩ := dsem_inj (by injection h); subst h₁; subst h₂; rfl

theorem kcell_injective : Function.Injective kcell := fun a b h => by
  have h1 : a.1 = b.1 := congrArg (fun g : GSem nD τ sig => g.1.1) h
  have h2 : csem a.2 = csem b.2 := congrArg Prod.snd h
  exact Prod.ext h1 (csem_injective h2)

theorem dcell_iff {c c' : Dev nD} {f k f' k' : Fin 8} : Iff (dcell c f k = dcell c' f' k') (c = c' ∧ f = f' ∧ k = k') :=
  ⟨fun h => by
    have h' := kcell_injective (a₁ := (c, some (f, k))) (a₂ := (c', some (f', k'))) h
    injection h' with h₁ h₂; injection h₂ with h₂; injection h₂ with h₂ h₃; exact ⟨h₁, h₂, h₃⟩,
   fun ⟨h₁, h₂, h₃⟩ => by subst h₁; subst h₂; subst h₃; rfl⟩
theorem barCell_iff {c c' : Dev nD} : Iff (barCell c = barCell c') (c = c') :=
  ⟨fun h => congrArg (fun g : GSem nD τ sig => g.1.1) h, fun h => h ▸ rfl⟩
theorem dcell_ne_bar {c c' : Dev nD} {f k : Fin 8} : dcell c f k ≠ barCell c' := fun h => by
  have := congrArg Prod.snd h; cases this

/-! ## The schedule -/

/-- The credit of a transfer of family `f`: a chunk of 32-bit numbers for the two reads, of 16-bit ones otherwise. -/
def amt (f : Fin 8) : ℕ := if f.val < 2 then (slot vpM 0).view.dmaCredit else (slot syM 0).view.dmaCredit
theorem amt_pos (f : Fin 8) : 0 < amt f := by unfold amt; split <;> exact View.dmaCredit_pos _ (by decide)

/-- Every buffer a family fills is credited its amount. -/
theorem amt_vp (k : Fin 8) : (slot vpM k).view.dmaCredit = amt 0 := rfl
theorem amt_vm (k : Fin 8) : (slot vmM k).view.dmaCredit = amt 1 := rfl
theorem amt_sy (k : Fin 8) : (slot syM k).view.dmaCredit = amt 2 := rfl
theorem amt_ry (k : Fin 8) : (slot ryM k).view.dmaCredit = amt 3 := rfl
theorem amt_sx (k : Fin 8) : (slot sxM k).view.dmaCredit = amt 4 := rfl
theorem amt_rx (k : Fin 8) : (slot rxM k).view.dmaCredit = amt 5 := rfl
theorem amt_outO (c : Dev nD) (k : Fin 8) : (outO c k).view.dmaCredit = amt 6 := rfl
theorem amt_outX (c : Dev nD) (k : Fin 8) : (outX c k).view.dmaCredit = amt 7 := rfl
theorem amt_columns : amt 2 = amt 3 := rfl
theorem amt_rows : amt 4 = amt 5 := rfl

/-- What a transfer of family `f`, chunk `k`, hands device `c` when it completes on `c`'s cell. -/
def pay (c : Dev nD) (f k : Fin 8) : sProp 𝕄 :=
  match f with
  | 0 => iprop(held (slot vpM k) c fullShare (hp m c k) ∗ held (srcP c k) c (shP k) (hp m c k))
  | 1 => iprop(held (slot vmM k) c fullShare (hm m c k) ∗ held (srcM c k) c (shM k) (hm m c k))
  | 2 => held (slot syM k) c fullShare (sy m c k)
  | 3 => held (slot ryM k) c fullShare (sy m (peerY c) k)
  | 4 => held (slot sxM k) c fullShare.left (sx m c k)
  | 5 => held (slot rxM k) c fullShare (sx m (peerX c) k)
  | 6 => iprop(held (outO c k) c fullShare (sx m c k) ∗ held (slot sxM k) c fullShare.right (sx m c k))
  | 7 => iprop(held (outX c k) c fullShare (sx m (peerX c) k) ∗ held (slot rxM k) c fullShare (sx m (peerX c) k))

/-- All eight slots of a buffer, free. -/
def freeSlots {e : EltTy} (M : Memref sig .tc .vmem S8x64x512 e) (c : Dev nD) : sProp 𝕄 := bigSep Finset.univ fun k => free (F := F) (slot M k) c

/-- What a barrier signal hands device `c`: the column receive buffer of its column neighbour, the row receive buffer of
    its row neighbour. -/
def barPay (c : Dev nD) (d : Bool) : sProp 𝕄 := if d then freeSlots (F := F) rxM (peerX c) else freeSlots ryM (peerY c)

instance pay_storable (c : Dev nD) (f k : Fin 8) : BI.Storable (upEmb : UEmb _ 𝕄) (pay m c f k) := by
  unfold pay; fin_cases f <;> dsimp only <;> infer_instance
instance barPay_storable (c : Dev nD) (d : Bool) : BI.Storable (upEmb : UEmb _ 𝕄) (barPay (F := F) c d) := by
  unfold barPay freeSlots; split <;> infer_instance

/-- One round on every cell of a TensorCore: two duties of one unit on a barrier cell, one duty of the transfer's credit on
    a DMA cell. -/
def sched : Rounds.Schedule (GSem nD τ sig) Bool 𝕄 where
  duties g r := if r = 0 then (match g.2 with | .reg _ => Finset.univ | .dma _ => {false}) else ∅
  unitless _ := False
  amount g _ _ := match g.2 with | .reg _ => 1 | .dma i => amt (fam i)
  payload g _ d := match g.2 with | .reg _ => barPay g.1.1 d | .dma i => pay m g.1.1 (fam i) (chunk i)
  amount_pos g _ _ _ := by rcases g with ⟨_, _ | i⟩; exacts [Nat.one_pos, amt_pos _]

instance sched_storable (g : GSem nD τ sig) (r : ℕ) (d : Bool) : BI.Storable (upEmb : UEmb _ 𝕄) ((sched m).payload g r d) := by
  rcases g with ⟨t, _ | i⟩
  · exact barPay_storable t.1 d
  · exact pay_storable m t.1 (fam i) (chunk i)

section Sched
variable (c : Dev nD) (f k : Fin 8)

theorem duties_bar : (sched m).duties (barCell c) 0 = Finset.univ := rfl
theorem duties_dma : (sched m).duties (dcell c f k) 0 = {false} := rfl
theorem duties_later (g : GSem nD τ sig) : ∀ r, 1 ≤ r → (sched m).duties g r = ∅ := fun r hr => if_neg (by omega)
theorem amount_bar (d : Bool) : (sched m).amount (barCell c) 0 d = 1 := rfl
theorem amount_dma (d : Bool) : (sched m).amount (dcell c f k) 0 d = amt f := by show amt (fam (dsem f k)) = _; rw [fam_dsem]
theorem payload_bar (d : Bool) : (sched m).payload (barCell c) 0 d = barPay c d := rfl
theorem payload_dma (d : Bool) : (sched m).payload (dcell c f k) 0 d = pay m c f k := by
  show pay m c (fam (dsem f k)) (chunk (dsem f k)) = _; rw [fam_dsem, chunk_dsem]
theorem expect_bar : (sched m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (sched m).expect (dcell c f k) 0 = amt f := by
  unfold Schedule.expect Schedule.amountOf; rw [duties_dma, Finset.sum_singleton, amount_dma]
/-- A barrier round hands over both receive buffers; -/
theorem rest_bar : bigSep ((sched m).duties (barCell c) 0 \ ∅) (fun d => (sched m).payload (barCell c) 0 d)
    = iprop(freeSlots ryM (peerY c) ∗ freeSlots rxM (peerX c)) := by
  rw [Finset.sdiff_empty, duties_bar, bigSep_univ_eq_bigSepL [false, true] (by decide) (by decide), bigSepL_cons_cons, bigSepL_singleton]; rfl
/-- a DMA round its payload. -/
theorem rest_dma : bigSep ((sched m).duties (dcell c f k) 0 \ ∅) (fun d => (sched m).payload (dcell c f k) 0 d) = pay m c f k := by
  rw [Finset.sdiff_empty, duties_dma, bigSep_singleton, payload_dma]
end Sched

/-! ## What is owed, and the levels -/

/-- The credits of family `f` that the chunks `L` owe device `p`, the head of the list the last summand. -/
def owedOn (f : Fin 8) (p : Dev nD) : List (Fin 8) → CellTallies nD τ sig Unit
  | [] => 0
  | k :: L => owedOn f p L + tallyAt (dcell p f k) () (amt f)

/-- What device `c` owes when the row sends of `LX` and the column sends of `LY` are still to come; -/
def owed (c : Dev nD) (LX LY : List (Fin 8)) : CellTallies nD τ sig Unit := owedOn 5 (peerX c) LX + owedOn 3 (peerY c) LY
/-- A column send takes the last summand off, -/
theorem owed_column (c : Dev nD) (LX : List (Fin 8)) (k : Fin 8) (l : List (Fin 8)) :
    owed c LX (k :: l) = owed c LX l + tallyAt (dcell (peerY c) 3 k) () (amt 3) := (add_assoc _ _ _).symm
/-- and so does a row send when the column sends are over. -/
theorem owed_row (c : Dev nD) (k : Fin 8) (l : List (Fin 8)) : owed c (k :: l) [] = owed c l [] + tallyAt (dcell (peerX c) 5 k) () (amt 5) := by
  unfold owed; rw [owedOn, owedOn, add_zero, add_zero]
/-- what device `c` owes before its second signal; -/
def O₁ (c : Dev nD) : CellTallies nD τ sig Unit := owed c all all + tallyAt (barCell (peerX c)) () 1
/-- at launch. -/
def O₀ (c : Dev nD) : CellTallies nD τ sig Unit := O₁ c + tallyAt (barCell (peerY c)) () 1

def L (g : GSem nD τ sig) : Finset Unit := if g.1.2 = .tc then {()} else ∅
/-- Barrier cells at 1, column receive cells at 2, row receive cells at 3, everything a device pays itself at 0. -/
def lev (s : SemLoc sig) : ℕ := match s with
  | .reg _ => 1
  | .dma i => if fam i = 3 then 2 else if fam i = 5 then 3 else 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl
theorem lev_dsem (f k : Fin 8) : lev (.dma (dsem f k)) = if f = 3 then 2 else if f = 5 then 3 else 0 := by
  show (if fam (dsem f k) = 3 then 2 else if fam (dsem f k) = 5 then 3 else 0) = _; rw [fam_dsem]

/-- Only the listed chunks' cells are owed. -/
theorem owedOn_pos {f : Fin 8} {p : Dev nD} : ∀ {l : List (Fin 8)} {g : GSem nD τ sig} {u : Unit}, 0 < owedOn f p l g u → l ≠ [] ∧ ∃ k, g = dcell p f k
  | [], g, u, h => absurd h (Nat.lt_irrefl 0)
  | k :: l, g, u, h => by
    refine ⟨List.cons_ne_nil _ _, ?_⟩
    rw [owedOn, Pi.add_apply, Finsupp.add_apply, tallyAt_apply] at h
    by_cases hg : g = dcell p f k ∧ u = ()
    · exact ⟨k, hg.1⟩
    · rw [if_neg hg, Nat.add_zero] at h; exact (owedOn_pos h).2

/-- A device may wait on a cell of its own below everything it owes. -/
theorem mayWait (c : Dev nD) (sm : SemLoc sig) (LX LY : List (Fin 8)) (hX : LX ≠ [] → lev sm < 3) (hY : LY ≠ [] → lev sm < 2) :
    (levAts L lv : sProp 𝕄) ⊢ MayWait (c : Thread nD τ) sm () (owed c LX LY) := by
  have key : ∀ (g : GSem nD τ sig) (u : Unit), 0 < owed c LX LY g u → g.1.2 = .tc ∧ lev sm < lev g.2 := fun g u h => by
    unfold owed at h
    rw [Pi.add_apply, Finsupp.add_apply] at h
    rcases Nat.eq_zero_or_pos (owedOn 5 (peerX c) LX g u) with h0 | h5
    · rw [h0, Nat.zero_add] at h
      obtain ⟨hn, k, rfl⟩ := owedOn_pos h
      exact ⟨rfl, by rw [lev_dsem]; exact hY hn⟩
    · obtain ⟨hn, k, rfl⟩ := owedOn_pos h5
      exact ⟨rfl, by rw [lev_dsem]; exact hX hn⟩
  exact MayOwe.of_cut (L := L) (lev := lv) (lev sm) (fun p hp => by rw [Finset.mem_singleton.mp hp, L_tc]; exact Finset.mem_singleton_self _)
    (fun g u h => by unfold L; rw [if_pos (key g u h).1]; exact Finset.mem_singleton_self _)
    (fun p hp => by rw [Finset.mem_singleton.mp hp]; exact le_rfl)
    (fun g u h => (key g u h).2)

end Cert.MeshReduce

end
-- ==== Proof.Steps.lean ====
/-
# One effect at a time

The rules the stages use: a local transfer, a transfer to a neighbour, a wait, a load of a slot, a store to a slot; how
stages follow one another, and how a stage is repeated over the chunks.
-/
module

public import proofs.«01_k».proof.Proof.Protocol
public import Idealize.ShloMosaic.Lib.Pipeline.BigSepL

@[expose] public section

noncomputable section

namespace Cert.MeshReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running `p` on device `c` ends in `Q`. -/
abbrev run (c : Dev nD) (p : P F) (Q : PUnit.{1} → sProp 𝕄) : sProp 𝕄 :=
  wp frame (wpE (defs₀ (F := F)) 𝒱₀ (c : Thread nD τ) none) Set.univ p Q

/-! ## What every device knows throughout -/

/-- Every cell of every device has its invariant and has reached its one round; the levels are fixed. -/
def known (K : Dev nD × CI → ℕ) : sProp 𝕄 :=
  iprop((bigSep Finset.univ fun ck : Dev nD × CI => cellInv ER (sched m) (K ck) (kcell ck))
    ∗ (bigSep Finset.univ fun ck : Dev nD × CI => reached ER (kcell ck) 0) ∗ levAts L lv)

instance known_persistent (K : Dev nD × CI → ℕ) : BI.Persistent (known m K) := by unfold known; infer_instance

variable (K : Dev nD × CI → ℕ)

theorem all_inv (ck : Dev nD × CI) :
    (bigSep Finset.univ fun ck : Dev nD × CI => (cellInv ER (sched m) (K ck) (kcell ck) : sProp 𝕄)) ⊢ cellInv ER (sched m) (K ck) (kcell ck) :=
  bigSep_elim (Finset.mem_univ ck)
theorem all_reached (ck : Dev nD × CI) : (bigSep Finset.univ fun ck : Dev nD × CI => (reached ER (kcell ck) 0 : sProp 𝕄)) ⊢ reached ER (kcell ck) 0 :=
  bigSep_elim (Finset.mem_univ ck)
theorem known_inv (ck : Dev nD × CI) : known m K ⊢ cellInv ER (sched m) (K ck) (kcell ck) := by
  unfold known; iintro ⟨#HI, -, -⟩; iapply (all_inv m K ck); iexact HI
theorem known_reached (ck : Dev nD × CI) : known m K ⊢ reached ER (kcell ck) 0 := by
  unfold known; iintro ⟨-, #HR, -⟩; iapply (all_reached (F := F) ck); iexact HR
theorem known_levels : known m K ⊢ levAts L lv := by
  unfold known; iintro ⟨-, -, #HL⟩; iexact HL

/-- What device `c` owes, whatever it has waited for. -/
def owing (c : Dev nD) (O : CellTallies nD τ sig Unit) : sProp 𝕄 := iprop(∃ W, owes (c : Thread nD τ) O W)

variable (c : Dev nD)

/-! ## The effects -/

section Effects
variable {κ : PUnit.{1} → P F}

/-- A local transfer: it borrows the source and the destination and pays the duty of its cell with both. -/
theorem copy_step {Q : PUnit.{1} → sProp 𝕄} {sp sp' : Space} {s : Shape} {e : EltTy} {src : Memref sig .tc sp s e} {dst : Memref sig .tc sp' s e} (f k : Fin 8)
    {q : PosShare TreeShare} {X : s.Idx → Elt F e} {hsrc : src.view.WordExact} {hdst : dst.view.WordExact}
    {hsem : DmaTarget.Typed (nD := nD) sp (.dma (dsem f k)) (DmaTarget.here (p := (c : Thread nD τ).2) (dst : Memref sig (c : Thread nD τ).2.kind sp' s e))}
    (hamt : dst.view.dmaCredit = amt f) (hpay : iprop(held dst c fullShare X ∗ held src c q X) ⊢ pay m c f k) :
    iprop(known m K ∗ held src c q X ∗ free dst c ∗ dutyTok ER (dcell c f k) 0 false)
      ⊢ iprop((cred (tallyAt (dcell c f k) () (amt f)) -∗ run c (κ ⟨⟩) Q)
          -∗ run c (.op (.enqueueDma src (.here dst) (.dma (dsem f k)) hsrc hdst hsem) κ) Q) := by
  unfold free
  iintro ⟨#HK, Hsrc, ⟨%fd, Hdst⟩, Htok⟩ Hk
  ihave #HI := (known_inv m K (c, some (f, k))) $$ HK
  ihave #HR := (known_reached m K (c, some (f, k))) $$ HK
  iapply (Rounds.wp_copy_pointsTo 𝒱₀ ER (sched m) (c : Thread nD τ) none (κ := K (c, some (f, k))) (src := src) (dst := dst) (sem := .dma (dsem f k)) (r := 0) (d := false) (q := q)
      (fs := src.view.rep X) (fd := fd) (by rw [duties_dma]; exact Finset.mem_singleton_self _) () (amt f) hamt (amount_dma m c f k false)
      (by rw [payload_dma]
          refine (sep_mono_left ?_).trans hpay
          exact held_of_read dst c fullShare X _ (by rw [View.read_write_univ, View.read_rep]))) $$ [Hsrc Hdst Htok]
  · isplitr; · iexact HI
    isplitl [Hsrc]; · unfold held; iexact Hsrc
    isplitl [Hdst]; · iexact Hdst
    isplitl [Htok]; · iexact Htok
    iexact HR
  iexact Hk

/-- A transfer to device `p`: it pays the duty of the sender's cell with the source and of the receiver's with what it
    writes there, and takes its credit off what the sender owes. -/
theorem send_step {Q : PUnit.{1} → sProp 𝕄} {s : Shape} {e : EltTy} {src dst : Memref sig .tc .vmem s e} (fs fr k : Fin 8) (p n : Dev nD) (hn : n = p)
    {q : PosShare TreeShare} {X : s.Idx → Elt F e} {hsc : (dst : Memref sig (Dev.tc n : Thread nD τ).2.kind .vmem s e).view.ref.isScScratch = false}
    {hsrc : src.view.WordExact} {hdst : dst.view.WordExact}
    {hsem : DmaTarget.Typed .vmem (.dma (dsem fr k)) (.remote (Dev.tc n : Thread nD τ) (dst : Memref sig (Dev.tc n : Thread nD τ).2.kind .vmem s e) (.dma (dsem fs k)) hsc)}
    (hamt : dst.view.dmaCredit = amt fr) (hamt' : amt fs = amt fr)
    (hpay₁ : held src c q X ⊢ pay m c fs k) (hpay₂ : held dst p fullShare X ⊢ pay m p fr k)
    {O O' : CellTallies nD τ sig Unit} (hO : O' = O + tallyAt (dcell p fr k) () (amt fr)) :
    iprop(known m K ∗ held src c q X ∗ free dst p ∗ owing c O' ∗ dutyTok ER (dcell c fs k) 0 false ∗ dutyTok ER (dcell p fr k) 0 false)
      ⊢ iprop(((cred (tallyAt (dcell c fs k) () (amt fs)) ∗ owing c O) -∗ run c (κ ⟨⟩) Q)
          -∗ run c (.op (.enqueueDma src (.remote (Dev.tc n : Thread nD τ) dst (.dma (dsem fs k)) hsc) (.dma (dsem fr k)) hsrc hdst hsem) κ) Q) := by
  subst hn
  unfold free owing
  iintro ⟨#HK, Hsrc, ⟨%fd, Hdst⟩, ⟨%W, HO⟩, Htok₁, Htok₂⟩ Hk
  ihave #HI₁ := (known_inv m K (c, some (fs, k))) $$ HK
  ihave #HI₂ := (known_inv m K (n, some (fr, k))) $$ HK
  ihave #HR₁ := (known_reached m K (c, some (fs, k))) $$ HK
  ihave #HR₂ := (known_reached m K (n, some (fr, k))) $$ HK
  iapply (Rounds.wp_send_pointsTo 𝒱₀ ER (sched m) (c : Thread nD τ) none (κ₁ := K (c, some (fs, k))) (κ₂ := K (n, some (fr, k))) (src := src)
      (c' := (n : Thread nD τ)) (dst := (dst : Memref sig (Dev.tc n : Thread nD τ).2.kind .vmem s e)) (sS := .dma (dsem fs k)) (sem := .dma (dsem fr k)) (r₁ := 0) (r₂ := 0) (d₁ := false) (d₂ := false) (q := q) (fs := src.view.rep X) (fd := fd)
      (by rw [duties_dma]; exact Finset.mem_singleton_self _) (by rw [duties_dma]; exact Finset.mem_singleton_self _)
      () () (amt fr) hamt ((amount_dma m c fs k false).trans hamt') (amount_dma m n fr k false) O hO (W := W)
      (by rw [payload_dma]; exact hpay₁)
      (by rw [payload_dma]
          refine BIBase.Entails.trans ?_ hpay₂
          exact held_of_read dst n fullShare X _ (by rw [View.read_write_univ, View.read_rep]))) $$ [Hsrc Hdst HO Htok₁ Htok₂]
  · isplitr; · iexact HI₁
    isplitr; · iexact HI₂
    isplitl [Hsrc]; · unfold held; iexact Hsrc
    isplitl [Hdst]; · iexact Hdst
    isplitl [HO]; · iexact HO
    isplitl [Htok₁]; · iexact Htok₁
    isplitr; · iexact HR₁
    isplitl [Htok₂]; · iexact Htok₂
    iexact HR₂
  iintro ⟨Hc, HO⟩
  iapply Hk
  isplitl [Hc]; · rw [hamt']; iexact Hc
  iexists W; iexact HO

/-- A wait on a DMA cell: the cell's payload comes back, and the cell, its one round over, its counter at zero. -/
theorem wait_step {Q : PUnit.{1} → sProp 𝕄} {sp sp' : Space} {s s' : Shape} {e e' : EltTy} {src : Memref sig .tc sp s e} {dst : Memref sig .tc sp' s' e'} (f k : Fin 8)
    {hsrc : src.view.WordExact} {hdst : dst.view.WordExact} (hamt : dst.view.dmaCredit = amt f) (LX LY : List (Fin 8))
    (hX : LX ≠ [] → f ≠ 5) (hY : LY ≠ [] → f ≠ 5 ∧ f ≠ 3) :
    iprop(known m K ∗ cred (tallyAt (dcell c f k) () (amt f)) ∗ owing c (owed c LX LY) ∗ atPos ER (dcell c f k) 0 ∅ 0)
      ⊢ iprop(((owing c (owed c LX LY) ∗ semVal (dcell c f k) 0 ∗ pay m c f k) -∗ run c (κ ⟨⟩) Q)
          -∗ run c (.op (.waitDma2 (dsem f k) src dst hsrc hdst) κ) Q) := by
  unfold owing
  iintro ⟨#HK, Hc, ⟨%W, HO⟩, Hat⟩ Hk
  ihave #HI := (known_inv m K (c, some (f, k))) $$ HK
  ihave #HL := (known_levels m K) $$ HK
  iapply (Rounds.wp_wait_rest_token 𝒱₀ ER (sched m) (c : Thread nD τ) none (κ := K (c, some (f, k)))
      (wpE_waitDma2_eq 𝒱₀ (c : Thread nD τ) none Set.univ) (Set.mem_univ _) () (O := owed c LX LY) (W := W) (R := 0) (m := 0) (T := ∅)
      (by rw [Nat.zero_add, expect_dma, hamt])) $$ [Hc HO Hat]
  · isplitr; · iexact HI
    isplitl [Hc]; · rw [hamt]; iexact Hc
    isplitl [HO]; · iexact HO
    isplitr
    · iapply (mayWait c (.dma (dsem f k)) LX LY
        (fun h => by rw [lev_dsem, if_neg (hX h)]; split <;> decide)
        (fun h => by rw [lev_dsem, if_neg (hY h).1, if_neg (hY h).2]; decide)); iexact HL
    iexact Hat
  iintro ⟨HO, Hat, -, Hpay⟩
  ihave Hp := (Entails.of_eq (rest_dma m c f k)) $$ Hpay
  imod (Rounds.cell_close ER (sched m) (Set.mem_univ (K (c, some (f, k)))) (fun h => h) (R := 0 + 1) (duties_later m (dcell c f k))) $$ [Hat] with Hz
  · isplitr; · iexact HI
    iexact Hat
  iapply Hk
  isplitl [HO]; · iexists _; iexact HO
  isplitl [Hz]; · iexact Hz
  iexact Hp

/-- Loading a slot held at the chunk `X` reads its one-deep slab. -/
theorem load_step {Q : PUnit.{1} → sProp 𝕄} {e : EltTy} (M : Memref sig .tc .vmem S8x64x512 e) (k : Fin 8) {q : PosShare TreeShare} {X : Vec F S64x512 e}
    {hl : M.view.LoadsAt (slotR k).toLoadRect} {κ : Vec F S1x64x512 e → P F} :
    held (slot M k) c q X ⊢ iprop((held (slot M k) c q X -∗ run c (κ (slab X)) Q) -∗ run c (.op (.load M (slotR k).toLoadRect hl) κ) Q) := by
  have hset : (M.access (slotR k)).set = (slot M k).view.set := (View.set_reshape (v := M.access (slotR k)) _).symm
  have hrd : M.view.readAt (Elt F) (slotR k).toLoadRect ((slot M k).view.rep X) = slab X := by
    have h : unslab (M.view.readAt (Elt F) (slotR k).toLoadRect ((slot M k).view.rep X)) = X := View.read_rep (slot M k).view X
    rw [← slab_unslab (M.view.readAt (Elt F) (slotR k).toLoadRect ((slot M k).view.rep X)), h]
  unfold held
  iintro H Hk
  iapply (wp_load_rect 𝒱₀ (c : Thread nD τ) none Set.univ (m := M) (r := slotR k) (S := (slot M k).view.set) (f := (slot M k).view.rep X) (by rw [hset])) $$ H
  iintro H
  ihave H' := Hk $$ H
  rw [← hrd]
  iexact H'

/-- The same of a slot whose contents are not known, when what is loaded is not used. -/
theorem load_any_step {Q : PUnit.{1} → sProp 𝕄} {e : EltTy} (M : Memref sig .tc .vmem S8x64x512 e) (k : Fin 8) {hl : M.view.LoadsAt (slotR k).toLoadRect} {p : P F} :
    free (slot M k) c ⊢ iprop((free (slot M k) c -∗ run c p Q) -∗ run c (.op (.load M (slotR k).toLoadRect hl) fun _ => p) Q) := by
  have hset : (M.access (slotR k)).set = (slot M k).view.set := (View.set_reshape (v := M.access (slotR k)) _).symm
  unfold free
  iintro ⟨%f, H⟩ Hk
  iapply (wp_load_rect 𝒱₀ (c : Thread nD τ) none Set.univ (m := M) (r := slotR k) (S := (slot M k).view.set) (f := f) (by rw [hset])) $$ H
  iintro H
  iapply Hk
  iexists f; iexact H

/-- Storing a one-deep slab in a free slot leaves the slot at the slab's chunk. -/
theorem store_step {Q : PUnit.{1} → sProp 𝕄} {e : EltTy} (M : Memref sig .tc .vmem S8x64x512 e) (k : Fin 8) {w : Vec F S1x64x512 e}
    {hx : (M.access (slotR k)).Stores Finset.univ} {hm : (Finset.univ : Finset (slotR k).shape.Idx) = Finset.univ ∨ ∀ a, (slotR k).stride a = 1} :
    free (slot M k) c ⊢ iprop((held (slot M k) c fullShare (unslab w) -∗ run c (κ ⟨⟩) Q) -∗ run c (.op (.store M (slotR k) w Finset.univ hx hm) κ) Q) := by
  have hset : (M.access (slotR k)).set = (slot M k).view.set := (View.set_reshape (v := M.access (slotR k)) _).symm
  unfold free
  iintro ⟨%f, H⟩ Hk
  iapply (wp_store 𝒱₀ (c : Thread nD τ) none Set.univ (m := M) (r := slotR k) (Mk := Finset.univ) (S := (slot M k).view.set) (f := f) (by rw [← hset]; exact Finset.Subset.refl _)) $$ H
  iintro H
  iapply Hk
  have hrd : (slot M k).view.read (Elt F) ((M.access (slotR k)).write (Elt F) f w Finset.univ) = unslab w :=
    show unslab ((M.access (slotR k)).read (Elt F) ((M.access (slotR k)).write (Elt F) f w Finset.univ)) = unslab w by
      rw [View.read_write_univ]
  iapply (held_of_read (slot M k) c fullShare (unslab w) _ hrd); iexact H

end Effects

/-! ## Stages -/

/-- The stage `b` takes device `c` from `Pre` to `Post`, whatever follows. -/
def Stage (b : P F) (Pre Post : sProp 𝕄) : Prop :=
  ∀ (κ : PUnit → P F) (Q : PUnit.{1} → sProp 𝕄), Pre ⊢ iprop((Post -∗ run c (κ ⟨⟩) Q) -∗ run c (b.bind κ) Q)

variable {c}

/-- A stage beside resources it does not use. -/
theorem Stage.frame {b : P F} {Pre Post : sProp 𝕄} (h : Stage c b Pre Post) (R : sProp 𝕄) : Stage c b iprop(Pre ∗ R) iprop(Post ∗ R) := fun κ Q => by
  iintro ⟨HP, HR⟩ Hk
  iapply (h κ Q) $$ HP
  iintro HP
  iapply Hk
  isplitl [HP] <;> iassumption

/-- A stage from more to less. -/
theorem Stage.weaken {b : P F} {Pre Post Pre' Post' : sProp 𝕄} (h : Stage c b Pre Post) (h₁ : Pre' ⊢ Pre) (h₂ : Post ⊢ Post') : Stage c b Pre' Post' := fun κ Q => by
  iintro HP Hk
  ihave HP' := h₁ $$ HP
  iapply (h κ Q) $$ HP'
  iintro HP
  iapply Hk
  iapply h₂; iexact HP

/-- One stage after another. -/
theorem Stage.seq {b b' : P F} {Pre Mid Post : sProp 𝕄} (h : Stage c b Pre Mid) (h' : Stage c b' Mid Post) : Stage c (b.bind fun _ => b') Pre Post := fun κ Q => by
  iintro HP Hk
  have e : (b.bind fun _ => b').bind κ = b.bind fun _ => b'.bind κ := Prog.bind_assoc b (fun _ => b') κ
  rw [e]
  iapply (h (fun _ => b'.bind κ) Q) $$ HP
  iintro HM
  iapply (h' κ Q) $$ HM
  iexact Hk

/-- A stage repeated over a list of chunks: what each chunk needs and yields, what is carried from one chunk to the next,
    and what is known throughout. -/
theorem Stage.loop {b : Fin 8 → P F} {R : sProp 𝕄} [BI.Persistent R] {Pre Post : Fin 8 → sProp 𝕄} {I : List (Fin 8) → sProp 𝕄}
    (h : ∀ k l, Stage c (b k) iprop(R ∗ Pre k ∗ I (k :: l)) iprop(Post k ∗ I l)) :
    ∀ l, Stage c (MeshReduce.loop b l) iprop(R ∗ bigSepL l Pre ∗ I l) iprop(bigSepL l Post ∗ I [])
  | [] => fun κ Q => by
    iintro ⟨-, -, HI⟩ Hk
    iapply Hk
    isplitr; · iempintro
    iexact HI
  | k :: l => fun κ Q => by
    rw [bigSepL_cons', bigSepL_cons']
    have e : (MeshReduce.loop b (k :: l)).bind κ = (b k).bind fun _ => (MeshReduce.loop b l).bind κ := Prog.bind_assoc (b k) (fun _ => MeshReduce.loop b l) κ
    rw [e]
    iintro ⟨#HR, ⟨HPk, HPl⟩, HI⟩ Hk
    iapply (h k l (fun _ => (MeshReduce.loop b l).bind κ) Q) $$ [HPk HI]
    · isplitr; · iexact HR
      isplitl [HPk] <;> iassumption
    iintro ⟨HQk, HI⟩
    iapply (Stage.loop h l κ Q) $$ [HPl HI]
    · isplitr; · iexact HR
      isplitl [HPl] <;> iassumption
    iintro ⟨HQl, HI⟩
    iapply Hk
    isplitl [HQk HQl]
    · isplitl [HQk] <;> iassumption
    iexact HI

end Cert.MeshReduce

end
-- ==== Proof.Stages.lean ====
/-
# The stages of the reduction

What each stage needs of its chunk and what it leaves, for every chunk and every device; then the same for the loops.
-/
module

public import proofs.«01_k».proof.Proof.Steps

@[expose] public section

noncomputable section

namespace Cert.MeshReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## Tokens, positions, credits and counters of a cell -/

/-- The duty of a cell, to be paid; -/
abbrev tok (c : Dev nD) (f k : Fin 8) : sProp 𝕄 := dutyTok ER (dcell c f k) 0 false
/-- the cell's round not yet waited for; -/
abbrev pos (c : Dev nD) (f k : Fin 8) : sProp 𝕄 := atPos ER (dcell c f k) 0 ∅ 0
/-- the right to wait for it; -/
abbrev crd (c : Dev nD) (f k : Fin 8) : sProp 𝕄 := cred (tallyAt (dcell c f k) () (amt f))
/-- the cell done, its counter at zero. -/
abbrev zero (c : Dev nD) (f k : Fin 8) : sProp 𝕄 := semVal (dcell c f k) 0

/-! ## What each stage needs of a chunk at launch -/

def needP (k : Fin 8) : sProp 𝕄 := iprop(held (srcP c k) c (shP k) (hp m c k) ∗ free (slot vpM k) c ∗ tok c 0 k)
def needM (k : Fin 8) : sProp 𝕄 := iprop(held (srcM c k) c (shM k) (hm m c k) ∗ free (slot vmM k) c ∗ tok c 1 k)
def needY (k : Fin 8) : sProp 𝕄 := iprop(pos c 0 k ∗ free (slot syM k) c ∗ tok c 2 k ∗ tok (peerY c) 3 k)
def needX (k : Fin 8) : sProp 𝕄 :=
  iprop(crd c 3 k ∗ pos c 3 k ∗ pos c 1 k ∗ free (slot sxM k) c ∗ tok c 4 k ∗ tok (peerX c) 5 k ∗ free (outO c k) c ∗ tok c 6 k)
def needPlace (k : Fin 8) : sProp 𝕄 := iprop(crd c 5 k ∗ pos c 5 k ∗ free (outX c k) c ∗ tok c 7 k)

/-! ## The stages -/

/-- Starting the read of a chunk for the neighbour yields the right to wait for it; -/
theorem startP_stage (k : Fin 8) : Stage c (startP c k) iprop(known m K ∗ needP m c k) (crd c 0 k) := fun κ Q => by
  unfold needP
  iintro ⟨#HK, Hs, Hd, Ht⟩ Hk
  iapply (copy_step m K c (κ := κ) (Q := Q) (dst := slot vpM k) (src := srcP c k) 0 k (q := shP k) (X := hp m c k) (amt_vp k) BIBase.Entails.rfl) $$ [Hs Hd Ht]
  · isplitr; · iexact HK
    isplitl [Hs]; · iexact Hs
    isplitl [Hd] <;> iassumption
  iexact Hk

/-- so does starting the read of a chunk to keep. -/
theorem startM_stage (k : Fin 8) : Stage c (startM c k) iprop(known m K ∗ needM m c k) (crd c 1 k) := fun κ Q => by
  unfold needM
  iintro ⟨#HK, Hs, Hd, Ht⟩ Hk
  iapply (copy_step m K c (κ := κ) (Q := Q) (dst := slot vmM k) (src := srcM c k) 1 k (q := shM k) (X := hm m c k) (amt_vm k) BIBase.Entails.rfl) $$ [Hs Hd Ht]
  · isplitr; · iexact HK
    isplitl [Hs]; · iexact Hs
    isplitl [Hd] <;> iassumption
  iexact Hk

/-- The column send of chunk `k`: the read it waited for comes back, the neighbour's slot is used up, and its credit is
    off what is owed. -/
theorem sendY_stage (k : Fin 8) (l : List (Fin 8)) :
    Stage c (sendY c k) iprop(known m K ∗ (crd c 0 k ∗ needY c k ∗ free (slot ryM k) (peerY c)) ∗ owing c (owed c all (k :: l)))
      iprop((zero c 0 k ∗ pay m c 0 k ∗ crd c 2 k) ∗ owing c (owed c all l)) := fun κ Q => by
  show _ ⊢ iprop(_ -∗ run c (sendY c k >>= κ) Q)
  simp only [sendY, Prog.lift, Prog.bind_op, Prog.bind_ret]
  unfold needY
  iintro ⟨#HK, ⟨Hc, ⟨Hp, Hsy, Ht₂, Ht₃⟩, Hry⟩, HO⟩ Hk
  iapply (wait_step m K c (src := srcP c k) (dst := slot vpM k) 0 k (amt_vp k) all (k :: l) (fun _ => by decide) (fun _ => by decide)) $$ [Hc Hp HO]
  · isplitr; · iexact HK
    isplitl [Hc]; · iexact Hc
    isplitl [HO] <;> iassumption
  iintro ⟨HO, Hz, Hpay⟩
  unfold pay
  icases Hpay with ⟨Hv, Hs⟩
  iapply (load_step c vpM k) $$ Hv; iintro Hv
  iapply (load_any_step c syM k) $$ Hsy; iintro Hsy
  iapply (store_step c syM k) $$ Hsy; iintro Hsy
  iapply (send_step m K c 2 3 k (peerY c) (devY c) (devY_eq c) (src := slot syM k) (dst := slot ryM k) (q := fullShare) (X := sy m c k) (amt_ry k) amt_columns
      BIBase.Entails.rfl (by show _ ⊢ held (slot ryM k) (peerY c) fullShare (sy m (peerY (peerY c)) k); rw [peerY_peerY])
      (O := owed c all l) (O' := owed c all (k :: l)) (owed_column c all k l)) $$ [Hsy Hry HO Ht₂ Ht₃]
  · isplitr; · iexact HK
    isplitl [Hsy]; · unfold sy; iexact Hsy
    isplitl [Hry]; · iexact Hry
    isplitl [HO]; · iexact HO
    isplitl [Ht₂] <;> iassumption
  iintro ⟨Hc, HO⟩
  iapply Hk
  isplitr [HO]
  · isplitl [Hz]; · iexact Hz
    isplitl [Hv Hs]
    · isplitl [Hv] <;> iassumption
    iexact Hc
  iexact HO

/-- The row send of chunk `k`, and the write of the sum to the result. -/
theorem sendX_stage (k : Fin 8) (l : List (Fin 8)) :
    Stage c (sendX c k) iprop(known m K ∗ (crd c 1 k ∗ needX c k ∗ free (slot rxM k) (peerX c)) ∗ owing c (owed c (k :: l) []))
      iprop((zero c 3 k ∗ pay m c 3 k ∗ zero c 1 k ∗ pay m c 1 k ∗ crd c 4 k ∗ crd c 6 k) ∗ owing c (owed c l [])) := fun κ Q => by
  show _ ⊢ iprop(_ -∗ run c (sendX c k >>= κ) Q)
  simp only [sendX, Prog.lift, Prog.bind_op, Prog.bind_ret]
  unfold needX
  iintro ⟨#HK, ⟨Hc₁, ⟨Hc₃, Hp₃, Hp₁, Hsx, Ht₄, Ht₅, Ho, Ht₆⟩, Hrx⟩, HO⟩ Hk
  iapply (wait_step m K c (src := slot syM k) (dst := slot ryM k) 3 k (amt_ry k) (k :: l) [] (fun _ => by decide) (fun h => absurd rfl h)) $$ [Hc₃ Hp₃ HO]
  · isplitr; · iexact HK
    isplitl [Hc₃]; · iexact Hc₃
    isplitl [HO] <;> iassumption
  iintro ⟨HO, Hz₃, Hy⟩
  iapply (wait_step m K c (src := srcM c k) (dst := slot vmM k) 1 k (amt_vm k) (k :: l) [] (fun _ => by decide) (fun h => absurd rfl h)) $$ [Hc₁ Hp₁ HO]
  · isplitr; · iexact HK
    isplitl [Hc₁]; · iexact Hc₁
    isplitl [HO] <;> iassumption
  iintro ⟨HO, Hz₁, Hpay⟩
  unfold pay
  icases Hpay with ⟨Hv, Hs⟩
  iapply (load_step c vmM k) $$ Hv; iintro Hv
  iapply (load_step c ryM k) $$ Hy; iintro Hy
  iapply (load_any_step c sxM k) $$ Hsx; iintro Hsx
  iapply (store_step c sxM k) $$ Hsx; iintro Hsx
  ihave Hh := (held_halves (slot sxM k) c _).1 $$ Hsx
  icases Hh with ⟨Hl, Hr⟩
  iapply (send_step m K c 4 5 k (peerX c) (devX c) (devX_eq c) (src := slot sxM k) (dst := slot rxM k) (q := fullShare.left) (X := sx m c k) (amt_rx k) amt_rows
      BIBase.Entails.rfl (by show _ ⊢ held (slot rxM k) (peerX c) fullShare (sx m (peerX (peerX c)) k); rw [peerX_peerX])
      (O := owed c l []) (O' := owed c (k :: l) []) (owed_row c k l)) $$ [Hl Hrx HO Ht₄ Ht₅]
  · isplitr; · iexact HK
    isplitl [Hl]; · unfold sx; iexact Hl
    isplitl [Hrx]; · iexact Hrx
    isplitl [HO]; · iexact HO
    isplitl [Ht₄] <;> iassumption
  iintro ⟨Hc₄, HO⟩
  iapply (copy_step m K c (κ := κ) (Q := Q) (dst := outO c k) (src := slot sxM k) 6 k (q := fullShare.right) (X := sx m c k) (amt_outO c k) BIBase.Entails.rfl) $$ [Hr Ho Ht₆]
  · isplitr; · iexact HK
    isplitl [Hr]; · unfold sx; iexact Hr
    isplitl [Ho] <;> iassumption
  iintro Hc₆
  iapply Hk
  isplitr [HO]
  · isplitl [Hz₃]; · iexact Hz₃
    isplitl [Hy]; · iexact Hy
    isplitl [Hz₁]; · iexact Hz₁
    isplitl [Hv Hs]
    · isplitl [Hv] <;> iassumption
    isplitl [Hc₄] <;> iassumption
  iexact HO

/-- Placing what the row neighbour sent. -/
theorem placeX_stage (k : Fin 8) (l : List (Fin 8)) :
    Stage c (placeX c k) iprop(known m K ∗ needPlace c k ∗ owing c (owed c [] [])) iprop((zero c 5 k ∗ crd c 7 k) ∗ owing c (owed c [] [])) := fun κ Q => by
  show _ ⊢ iprop(_ -∗ run c (placeX c k >>= κ) Q)
  simp only [placeX, Prog.lift, Prog.bind_op, Prog.bind_ret]
  unfold needPlace
  iintro ⟨#HK, ⟨Hc, Hp, Ho, Ht⟩, HO⟩ Hk
  iapply (wait_step m K c (src := slot sxM k) (dst := slot rxM k) 5 k (amt_rx k) [] [] (fun h => absurd rfl h) (fun h => absurd rfl h)) $$ [Hc Hp HO]
  · isplitr; · iexact HK
    isplitl [Hc]; · iexact Hc
    isplitl [HO] <;> iassumption
  iintro ⟨HO, Hz, Hx⟩
  unfold pay
  iapply (copy_step m K c (κ := κ) (Q := Q) (dst := outX c k) (src := slot rxM k) 7 k (q := fullShare) (X := sx m (peerX c) k) (amt_outX c k) BIBase.Entails.rfl) $$ [Hx Ho Ht]
  · isplitr; · iexact HK
    isplitl [Hx]; · iexact Hx
    isplitl [Ho] <;> iassumption
  iintro Hc
  iapply Hk
  isplitr [HO]
  · isplitl [Hz] <;> iassumption
  iexact HO

/-- Draining a cell when nothing is owed any more: its payload and its counter at zero. -/
theorem drain_stage {sp sp' : Space} {s s' : Shape} {e e' : EltTy} {src : Memref sig .tc sp s e} {dst : Memref sig .tc sp' s' e'} (f k : Fin 8)
    {hsrc : src.view.WordExact} {hdst : dst.view.WordExact} (hamt : dst.view.dmaCredit = amt f) :
    Stage c (Prog.lift (.waitDma2 (dsem f k) src dst hsrc hdst) : P F) iprop(known m K ∗ (crd c f k ∗ pos c f k) ∗ owing c (owed c [] []))
      iprop((zero c f k ∗ pay m c f k) ∗ owing c (owed c [] [])) := fun κ Q => by
  iintro ⟨#HK, ⟨Hc, Hp⟩, HO⟩ Hk
  iapply (wait_step m K c (κ := κ) (Q := Q) (src := src) f k hamt [] [] (fun h => absurd rfl h) (fun h => absurd rfl h)) $$ [Hc Hp HO]
  · isplitr; · iexact HK
    isplitl [Hc]; · iexact Hc
    isplitl [HO] <;> iassumption
  iintro ⟨HO, Hz, Hpay⟩
  iapply Hk
  isplitr [HO]
  · isplitl [Hz] <;> iassumption
  iexact HO

/-- Draining the two send cells of a chunk. -/
theorem drainS_stage (k : Fin 8) :
    Stage c (drainS k) iprop(known m K ∗ ((crd c 2 k ∗ pos c 2 k) ∗ crd c 4 k ∗ pos c 4 k) ∗ owing c (owed c [] []))
      iprop(((zero c 2 k ∗ pay m c 2 k) ∗ zero c 4 k ∗ pay m c 4 k) ∗ owing c (owed c [] [])) := fun κ Q => by
  show _ ⊢ iprop(_ -∗ run c (drainS k >>= κ) Q)
  simp only [drainS, Prog.lift, Prog.bind_op, Prog.bind_ret]
  iintro ⟨#HK, ⟨⟨Hc₂, Hp₂⟩, Hc₄, Hp₄⟩, HO⟩ Hk
  iapply (wait_step m K c (src := slot ryM k) (dst := slot syM k) 2 k (amt_sy k) [] [] (fun h => absurd rfl h) (fun h => absurd rfl h)) $$ [Hc₂ Hp₂ HO]
  · isplitr; · iexact HK
    isplitl [Hc₂]; · iexact Hc₂
    isplitl [HO] <;> iassumption
  iintro ⟨HO, H₂⟩
  iapply (wait_step m K c (src := slot rxM k) (dst := slot sxM k) 4 k (amt_sx k) [] [] (fun h => absurd rfl h) (fun h => absurd rfl h)) $$ [Hc₄ Hp₄ HO]
  · isplitr; · iexact HK
    isplitl [Hc₄]; · iexact Hc₄
    isplitl [HO] <;> iassumption
  iintro ⟨HO, H₄⟩
  iapply Hk
  isplitr [HO]
  · isplitl [H₂] <;> iassumption
  iexact HO

end Cert.MeshReduce

end
-- ==== Proof.Body.lean ====
/-
# The kernel on one device

The loops over the chunks put together with the two signals and the wait for the neighbours: from what a device holds at
launch to every chunk's payloads and every semaphore at zero.
-/
module

public import proofs.«01_k».proof.Proof.Stages

@[expose] public section

noncomputable section

namespace Cert.MeshReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## All eight chunks -/

/-- A resource of every chunk. -/
abbrev each (Φ : Fin 8 → sProp 𝕄) : sProp 𝕄 := bigSep Finset.univ Φ

theorem each_list (Φ : Fin 8 → sProp 𝕄) : each Φ = bigSepL all Φ := bigSep_univ_eq_bigSepL all (by decide) (by decide) Φ

/-- Two resources of every chunk, joined and parted. -/
theorem each_sep (Φ Ψ : Fin 8 → sProp 𝕄) : each (fun k => iprop(Φ k ∗ Ψ k)) = iprop(each Φ ∗ each Ψ) := bigSep_sep' _ _ _

variable {c} in
/-- A stage repeated over all chunks. -/
theorem Stage.every {b : Fin 8 → P F} {R : sProp 𝕄} [BI.Persistent R] {Pre Post : Fin 8 → sProp 𝕄} {I : List (Fin 8) → sProp 𝕄}
    (h : ∀ k l, Stage c (b k) iprop(R ∗ Pre k ∗ I (k :: l)) iprop(Post k ∗ I l)) :
    Stage c (MeshReduce.loop b all) iprop(R ∗ each Pre ∗ I all) iprop(each Post ∗ I []) := by
  rw [each_list, each_list]; exact Stage.loop h all

variable {c} in
/-- The same when nothing is carried from one chunk to the next. -/
theorem Stage.every_free {b : Fin 8 → P F} {R : sProp 𝕄} [BI.Persistent R] {Pre Post : Fin 8 → sProp 𝕄}
    (h : ∀ k, Stage c (b k) iprop(R ∗ Pre k) (Post k)) : Stage c (MeshReduce.loop b all) iprop(R ∗ each Pre) (each Post) :=
  (Stage.every (I := fun _ => iprop(emp)) fun k l => (h k).weaken
      (by iintro ⟨HR, HP, -⟩; isplitl [HR] <;> iassumption)
      (by iintro H; isplitl; · iexact H
          iempintro)).weaken
    (by iintro ⟨HR, HP⟩; isplitl [HR]; · iexact HR
        isplitl; · iexact HP
        iempintro)
    (by iintro ⟨H, -⟩; iexact H)

/-! ## The loops -/

/-- Reading all chunks for the neighbour, -/
theorem startP_all : Stage c (loop (startP c) all) iprop(known m K ∗ each (needP m c)) (each (crd c 0)) := Stage.every_free (startP_stage m K c)
/-- reading all chunks to keep, -/
theorem startM_all : Stage c (loop (startM c) all) iprop(known m K ∗ each (needM m c)) (each (crd c 1)) := Stage.every_free (startM_stage m K c)
/-- sending all chunks to the column neighbour, -/
theorem sendY_all : Stage c (loop (sendY c) all)
    iprop(known m K ∗ each (fun k => iprop(crd c 0 k ∗ needY c k ∗ free (slot ryM k) (peerY c))) ∗ owing c (owed c all all))
    iprop(each (fun k => iprop(zero c 0 k ∗ pay m c 0 k ∗ crd c 2 k)) ∗ owing c (owed c all [])) :=
  Stage.every (I := fun l => owing c (owed c all l)) (sendY_stage m K c)
/-- sending all sums to the row neighbour, -/
theorem sendX_all : Stage c (loop (sendX c) all)
    iprop(known m K ∗ each (fun k => iprop(crd c 1 k ∗ needX c k ∗ free (slot rxM k) (peerX c))) ∗ owing c (owed c all []))
    iprop(each (fun k => iprop(zero c 3 k ∗ pay m c 3 k ∗ zero c 1 k ∗ pay m c 1 k ∗ crd c 4 k ∗ crd c 6 k)) ∗ owing c (owed c [] [])) :=
  Stage.every (I := fun l => owing c (owed c l [])) (sendX_stage m K c)
/-- placing all the row neighbour's sums, -/
theorem placeX_all : Stage c (loop (placeX c) all) iprop(known m K ∗ each (needPlace c) ∗ owing c (owed c [] []))
    iprop(each (fun k => iprop(zero c 5 k ∗ crd c 7 k)) ∗ owing c (owed c [] [])) :=
  Stage.every (I := fun _ => owing c (owed c [] [])) (placeX_stage m K c)
/-- and draining the writes of the own rows, -/
theorem drainO_all : Stage c (loop (drainO c) all) iprop(known m K ∗ each (fun k => iprop(crd c 6 k ∗ pos c 6 k)) ∗ owing c (owed c [] []))
    iprop(each (fun k => iprop(zero c 6 k ∗ pay m c 6 k)) ∗ owing c (owed c [] [])) :=
  Stage.every (I := fun _ => owing c (owed c [] [])) fun k _ => drain_stage m K c (src := slot sxM k) (dst := outO c k) 6 k (amt_outO c k)
/-- of the other rows, -/
theorem drainX_all : Stage c (loop (drainX c) all) iprop(known m K ∗ each (fun k => iprop(crd c 7 k ∗ pos c 7 k)) ∗ owing c (owed c [] []))
    iprop(each (fun k => iprop(zero c 7 k ∗ pay m c 7 k)) ∗ owing c (owed c [] [])) :=
  Stage.every (I := fun _ => owing c (owed c [] [])) fun k _ => drain_stage m K c (src := slot rxM k) (dst := outX c k) 7 k (amt_outX c k)
/-- and the sends. -/
theorem drainS_all : Stage c (loop drainS all)
    iprop(known m K ∗ each (fun k => iprop((crd c 2 k ∗ pos c 2 k) ∗ crd c 4 k ∗ pos c 4 k)) ∗ owing c (owed c [] []))
    iprop(each (fun k => iprop((zero c 2 k ∗ pay m c 2 k) ∗ zero c 4 k ∗ pay m c 4 k)) ∗ owing c (owed c [] [])) :=
  Stage.every (I := fun _ => owing c (owed c [] [])) fun k _ => drainS_stage m K c k

/-! ## The barrier -/

/-- A signal to a neighbour pays one of the duties of its barrier cell. -/
theorem signal_step {Q : PUnit.{1} → sProp 𝕄} {κ : PUnit.{1} → P F} (p n : Dev nD) (hn : n = p) (d : Bool) {O O' : CellTallies nD τ sig Unit}
    (hO : O' = O + tallyAt (barCell p) () 1) :
    iprop(known m K ∗ barPay (F := F) p d ∗ owing c O' ∗ dutyTok ER (barCell p) 0 d)
      ⊢ iprop((owing c O -∗ run c (κ ⟨⟩) Q) -∗ run c ((semSignalWord n barS 1#32).bind κ) Q) := by
  subst hn
  show _ ⊢ iprop(_ -∗ run c (semSignalWord n barS 1#32 >>= κ) Q)
  simp only [semSignalWord, Prog.lift, Prog.bind_op, Prog.bind_ret]
  unfold owing
  iintro ⟨#HK, HP, ⟨%W, HO⟩, Ht⟩ Hk
  ihave #HI := (known_inv m K (n, none)) $$ HK
  ihave #HR := (known_reached m K (n, none)) $$ HK
  iapply (Rounds.wp_signal 𝒱₀ ER (sched m) (c : Thread nD τ) none (dst := (n : Thread nD τ)) (κ := K (n, none))
      (d := d) (by rw [duties_bar]; exact Finset.mem_univ _) ((amount_bar m n d).trans (by decide)) () O hO)
    $$ [HO Ht HP]
  · isplitr; · iexact HI
    isplitl [HO]; · iexact HO
    isplitl [Ht]; · iexact Ht
    isplitl [HP]; · rw [payload_bar]; iexact HP
    iexact HR
  iintro HO
  iapply Hk
  iexists W; iexact HO

/-- The wait for both neighbours' signals hands over both receive buffers. -/
theorem barrier_step : Stage (F := F) c (semWaitWord barS 2#32)
    iprop(known m K ∗ cred (tallyAt (barCell c) () 2) ∗ atPos ER (barCell c) 0 ∅ 0 ∗ owing c (owed c all all))
    iprop((semVal (barCell c) 0 ∗ freeSlots ryM (peerY c) ∗ freeSlots rxM (peerX c)) ∗ owing c (owed c all all)) := fun κ Q => by
  show _ ⊢ iprop(_ -∗ run c (semWaitWord barS 2#32 >>= κ) Q)
  simp only [semWaitWord, Prog.lift, Prog.bind_op, Prog.bind_ret]
  unfold owing
  iintro ⟨#HK, Hc, Hat, %W, HO⟩ Hk
  ihave #HI := (known_inv m K (c, none)) $$ HK
  ihave #HL := (known_levels m K) $$ HK
  iapply (Rounds.wp_wait_rest_token 𝒱₀ ER (sched m) (c : Thread nD τ) none (κ := K (c, none))
      (wpE_semWait_eq 𝒱₀ (c : Thread nD τ) none Set.univ) (Set.mem_univ _) () (O := owed c all all) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barS) all all (fun _ => (by decide : (1 : ℕ) < 3)) (fun _ => (by decide : (1 : ℕ) < 2))); iexact HL
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barCell c))) $$ [Hat] with Hz
  · isplitr; · iexact HI
    iexact Hat
  iapply Hk
  isplitr [HO]
  · isplitl [Hz]; · iexact Hz
    iexact Hp
  iexists _; iexact HO

/-! ## The body -/

/-- What device `c` starts its body with. -/
def start : sProp 𝕄 :=
  iprop(known m K
    ∗ (dutyTok ER (barCell (peerY c)) 0 false ∗ dutyTok ER (barCell (peerX c)) 0 true ∗ cred (tallyAt (barCell c) () 2) ∗ atPos ER (barCell c) 0 ∅ 0)
    ∗ (freeSlots ryM c ∗ freeSlots rxM c)
    ∗ (each (needP m c) ∗ each (needM m c) ∗ each (needY c) ∗ each (needX c) ∗ each (needPlace c))
    ∗ (each (pos c 2) ∗ each (pos c 4) ∗ each (pos c 6) ∗ each (pos c 7))
    ∗ owing c (O₀ c))

/-- Every payload the body ends with. -/
def pays : sProp 𝕄 := iprop(each (pay m c 0) ∗ each (pay m c 1) ∗ each (pay m c 2) ∗ each (pay m c 3) ∗ each (pay m c 4) ∗ each (pay m c 6) ∗ each (pay m c 7))

/-- Every counter at zero. -/
def zeros : sProp 𝕄 := iprop((each (zero c 0) ∗ each (zero c 1) ∗ each (zero c 2) ∗ each (zero c 3) ∗ each (zero c 4) ∗ each (zero c 5) ∗ each (zero c 6) ∗ each (zero c 7))
  ∗ semVal (barCell c) 0)

/-- The body takes a device from its start to all payloads, all counters at zero, nothing owed. -/
theorem body_step (Q : PUnit.{1} → sProp 𝕄) :
    start m K c ⊢ iprop(((pays m c ∗ zeros (F := F) c ∗ owing c 0) -∗ Q ⟨⟩) -∗ run c (staged (F := F)) Q) := by
  unfold start
  rw [show (staged : P F) = Prog.lift .deviceId >>= fun d => semSignalWord (⟨k0_dev1 d, k0_dev1_lt d⟩ : Dev nD) barS 1#32 >>= fun _ => _ from rfl]
  simp only [Prog.lift, Prog.bind_op, Prog.bind_ret, wp_deviceId]
  iintro ⟨#HK, ⟨HtY, HtX, HcB, HaB⟩, ⟨Hry, Hrx⟩, ⟨HP, HM, HY, HX, HPl⟩, ⟨Hp2, Hp4, Hp6, Hp7⟩, HO⟩ Hk
  iapply (signal_step m K c (peerY c) _ (sigY_eq c) false (O := O₁ c) (O' := O₀ c) rfl) $$ [Hry HO HtY]
  · isplitr; · iexact HK
    isplitl [Hry]
    · rw [show barPay (F := F) (peerY c) false = freeSlots ryM c by show freeSlots ryM (peerY (peerY c)) = _; rw [peerY_peerY]]; iexact Hry
    isplitl [HO] <;> iassumption
  iintro HO
  iapply (signal_step m K c (peerX c) _ (sigX_eq c) true (O := owed c all all) (O' := O₁ c) rfl) $$ [Hrx HO HtX]
  · isplitr; · iexact HK
    isplitl [Hrx]
    · rw [show barPay (F := F) (peerX c) true = freeSlots rxM c by show freeSlots rxM (peerX (peerX c)) = _; rw [peerX_peerX]]; iexact Hrx
    isplitl [HO] <;> iassumption
  iintro HO
  iapply (startP_all m K c _ Q) $$ [HP]
  · isplitr <;> iassumption
  iintro Hc0
  iapply (startM_all m K c _ Q) $$ [HM]
  · isplitr <;> iassumption
  iintro Hc1
  iapply (barrier_step m K c _ Q) $$ [HcB HaB HO]
  · isplitr; · iexact HK
    isplitl [HcB]; · iexact HcB
    isplitl [HaB] <;> iassumption
  iintro ⟨⟨HzB, Hry, Hrx⟩, HO⟩
  iapply (sendY_all m K c _ Q) $$ [Hc0 HY Hry HO]
  · rw [each_sep, each_sep]
    isplitr; · iexact HK
    isplitr [HO]
    · isplitl [Hc0]; · iexact Hc0
      isplitl [HY]; · iexact HY
      unfold freeSlots; iexact Hry
    iexact HO
  rw [each_sep, each_sep]
  iintro ⟨⟨Hz0, Hy0, Hc2⟩, HO⟩
  iapply (sendX_all m K c _ Q) $$ [Hc1 HX Hrx HO]
  · rw [each_sep, each_sep]
    isplitr; · iexact HK
    isplitr [HO]
    · isplitl [Hc1]; · iexact Hc1
      isplitl [HX]; · iexact HX
      unfold freeSlots; iexact Hrx
    iexact HO
  rw [each_sep, each_sep, each_sep, each_sep, each_sep]
  iintro ⟨⟨Hz3, Hy3, Hz1, Hy1, Hc4, Hc6⟩, HO⟩
  iapply (placeX_all m K c _ Q) $$ [HPl HO]
  · isplitr; · iexact HK
    isplitl [HPl] <;> iassumption
  rw [each_sep]
  iintro ⟨⟨Hz5, Hc7⟩, HO⟩
  iapply (drainO_all m K c _ Q) $$ [Hc6 Hp6 HO]
  · rw [each_sep]
    isplitr; · iexact HK
    isplitr [HO]
    · isplitl [Hc6] <;> iassumption
    iexact HO
  rw [each_sep]
  iintro ⟨⟨Hz6, Hy6⟩, HO⟩
  iapply (drainX_all m K c _ Q) $$ [Hc7 Hp7 HO]
  · rw [each_sep]
    isplitr; · iexact HK
    isplitr [HO]
    · isplitl [Hc7] <;> iassumption
    iexact HO
  rw [each_sep]
  iintro ⟨⟨Hz7, Hy7⟩, HO⟩
  rw [← Prog.bind_pure (loop drainS all)]
  iapply (drainS_all m K c _ Q) $$ [Hc2 Hp2 Hc4 Hp4 HO]
  · rw [each_sep, each_sep, each_sep]
    isplitr; · iexact HK
    isplitr [HO]
    · isplitl [Hc2 Hp2]
      · isplitl [Hc2] <;> iassumption
      isplitl [Hc4] <;> iassumption
    iexact HO
  rw [each_sep, each_sep, each_sep]
  iintro ⟨⟨⟨Hz2, Hy2⟩, Hz4, Hy4⟩, HO⟩
  unfold run
  rw [Prog.pure_eq_ret, wp_ret]; imodintro
  iapply Hk
  unfold pays zeros
  isplitl [Hy0 Hy1 Hy2 Hy3 Hy4 Hy6 Hy7]
  · isplitl [Hy0]; · iexact Hy0
    isplitl [Hy1]; · iexact Hy1
    isplitl [Hy2]; · iexact Hy2
    isplitl [Hy3]; · iexact Hy3
    isplitl [Hy4]; · iexact Hy4
    isplitl [Hy6] <;> iassumption
  isplitr [HO]
  · isplitr [HzB]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6] <;> iassumption
    iexact HzB
  rw [show owed c [] [] = 0 from by unfold owed; rw [owedOn, owedOn, add_zero]]
  iexact HO

end Cert.MeshReduce

end
-- ==== Proof.Buffers.lean ====
/-
# The buffers, piece by piece

A device holds its buffers whole at launch. The scratch buffers are their eight slots; the argument is lent to the reads
in read shares, a chunk to each; the result is the sixteen chunks the device writes. What comes back joins to whole
buffers again, and the joined result reads on every chunk what was written there.
-/
module

public import proofs.«01_k».proof.Proof.Body
public import Idealize.ShloMosaic.Lib.Ring

@[expose] public section

noncomputable section

namespace Cert.MeshReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-! ## Slots -/

theorem slot_set {e : EltTy} (M : Memref sig .tc .vmem S8x64x512 e) (k : Fin 8) : (slot M k).view.set = (slotR k).set.map M.view.emb :=
  (View.set_reshape (v := M.access (slotR k)) _).trans (View.set_slice (v := M.view) (slotR k))

/-- The slots of a buffer do not overlap, -/
theorem slots_disjoint {e : EltTy} (M : Memref sig .tc .vmem S8x64x512 e) (k k' : Fin 8) (h : k ≠ k') :
    Disjoint (slot M k).view.set (slot M k').view.set := by
  rw [slot_set, slot_set, Finset.disjoint_map]
  exact Ring.lead_disjoint (s := S8x64x512) 0 1 (fun k : Fin 8 => ![k.val, 0, 0]) S1x64x512.size slot_inb (fun b => (Nat.one_mul _).symm) rfl k k' h

/-- and are all of it. -/
theorem slots_cover {e : EltTy} (M : Memref sig .tc .vmem S8x64x512 e) (hM : M.IsWhole) :
    (Finset.univ : Finset (Fin 8)).biUnion (β := M.view.ty.Idx) (fun k => (slot M k).view.set) = Finset.univ := by
  refine Finset.eq_univ_of_forall fun i => ?_
  obtain ⟨x, -, hx⟩ := Finset.mem_map.mp (show i ∈ M.view.set by rw [hM.set_eq_univ]; exact Finset.mem_univ i)
  have hc := Ring.lead_cover (s := S8x64x512) 0 1 (fun k : Fin 8 => ![k.val, 0, 0]) S1x64x512.size slot_inb (fun b => (Nat.one_mul _).symm)
      (fun b a ha => by fin_cases a; exacts [absurd rfl ha, rfl, rfl]) rfl (fun a ha => by fin_cases a; exacts [absurd rfl ha, rfl, rfl]) rfl
  obtain ⟨k, -, hk⟩ := Finset.mem_biUnion.mp (show x ∈ Finset.univ.biUnion fun k : Fin 8 => (slotR k).set by rw [hc]; exact Finset.mem_univ x)
  exact Finset.mem_biUnion.mpr ⟨k, Finset.mem_univ k, by rw [slot_set, ← hx]; exact Finset.mem_map_of_mem _ hk⟩

/-- A buffer held whole is its eight slots, free; -/
theorem slots_split {e : EltTy} (M : Memref sig .tc .vmem S8x64x512 e) (hM : M.IsWhole) :
    iprop(∃ f : Buf (Elt F) (M.view.loc (c : Thread nD τ)), M.view.loc (c : Thread nD τ) ↦{fullShare} f) ⊢ freeSlots (F := F) M c := by
  iintro ⟨%f, H⟩
  ihave H' := (Entails.of_eq (Ring.pointsTo_blocks (ℓ := M.view.loc (c : Thread nD τ)) (fun k => (slot M k).view.set) (slots_disjoint M) (slots_cover M hM) f)) $$ H
  have hf : each (fun k => (M.view.loc (c : Thread nD τ) ↦[(slot M k).view.set]{fullShare} f : sProp 𝕄)) ⊢ freeSlots M c := bigSep_mono (fun k _ => show (M.view.loc (c : Thread nD τ) ↦[(slot M k).view.set]{fullShare} f : sProp 𝕄) ⊢ free (slot M k) c from by
    unfold free; iintro H; iexists f; iexact H)
  iapply hf; iexact H'

/-- eight free slots are the buffer whole. -/
theorem slots_join {e : EltTy} (M : Memref sig .tc .vmem S8x64x512 e) (hM : M.IsWhole) :
    freeSlots (F := F) M c ⊢ iprop(∃ f : Buf (Elt F) (M.view.loc (c : Thread nD τ)), M.view.loc (c : Thread nD τ) ↦{fullShare} f) :=
  Ring.pointsTo_blocks_join_exists (ℓ := M.view.loc (c : Thread nD τ)) (fun k => (slot M k).view.set) (slots_disjoint M) (slots_cover M hM)
    ((slot M 0).view.rep fun _ => Classical.arbitrary _)

/-- Eight slots at known contents are the buffer whole. -/
theorem slots_join_held {e : EltTy} (M : Memref sig .tc .vmem S8x64x512 e) (hM : M.IsWhole) (X : Fin 8 → Vec F S64x512 e) :
    each (fun k => held (slot M k) c fullShare (X k)) ⊢ iprop(∃ f : Buf (Elt F) (M.view.loc (c : Thread nD τ)), M.view.loc (c : Thread nD τ) ↦{fullShare} f) :=
  (bigSep_mono fun k _ => held_free (slot M k) c (X k)).trans (slots_join c M hM)

/-! ## The argument -/

/-- A chunk of the argument at offset `off`. -/
abbrev chunkAt (off : Fin 3 → ℕ) (h : ∀ a, off a + S1x64x512.size a ≤ S1x1024x1024.size a) : Memref sig .tc .hbm S64x512 .f32 :=
  (xM.slice (Rect.unit (s := S1x1024x1024) off S1x64x512.size h) (fun _ => rfl)).squeeze S64x512 squeezes_S1x64x512_S64x512

/-- What of the argument a read of the chunk `k` is not lent. -/
def notLent (q : PosShare TreeShare) (f : Buf (Elt F) ((c : Thread nD τ).loc main_arg0)) (I : Fin 8 → Finset (Idx (((c : Thread nD τ).loc main_arg0) : Loc nD τ sig))) : sProp 𝕄 :=
  each fun k => ((c : Thread nD τ).loc main_arg0) ↦[Finset.univ \ I k]{ShareLeaves.leaf 3 q k} f

/-- A share of a buffer is eight smaller ones, each in two parts. -/
theorem leaves_split {ℓ : Loc nD τ sig} (q : PosShare TreeShare) (f : Buf (Elt F) ℓ) (I : Fin 8 → Finset (Idx ℓ)) :
    (ℓ ↦{q} f : sProp 𝕄) = iprop(each (fun k => ℓ ↦[I k]{ShareLeaves.leaf 3 q k} f) ∗ each fun k => ℓ ↦[Finset.univ \ I k]{ShareLeaves.leaf 3 q k} f) := by
  refine (ShareLeaves.pointsTo_leaves Finset.univ f 3 q).trans ?_
  rw [← each_sep]
  exact bigSep_congr fun k _ => by
    have hs := pointsTo_split_subset (Ix := Unit) (Name := ℕ) (U := UU) (Lvl := ℕ) (ℓ := ℓ) (q := ShareLeaves.leaf 3 q k) (f := f)
      (I := I k) (S := Finset.univ) (Finset.subset_univ _)
    exact Entails.antisymm hs.1 hs.2

/-- A share of the argument is lent to eight reads, a chunk to each, and the rest kept. -/
theorem lend (q : PosShare TreeShare) (f : Buf (Elt F) ((c : Thread nD τ).loc main_arg0)) (off : Fin 8 → Fin 3 → ℕ)
    (h : ∀ k a, off k a + S1x64x512.size a ≤ S1x1024x1024.size a) :
    (((c : Thread nD τ).loc main_arg0) ↦{q} f : sProp 𝕄)
      = iprop(each (fun k => held (chunkAt (off k) (h k)) c (ShareLeaves.leaf 3 q k) ((chunkAt (off k) (h k)).view.read (Elt F) f))
          ∗ notLent c q f fun k => (chunkAt (off k) (h k)).view.set) := by
  refine (leaves_split q f fun k => (chunkAt (off k) (h k)).view.set).trans ?_
  unfold notLent held
  refine congrArg (fun P => iprop(P ∗ _)) (bigSep_congr fun k _ => ?_)
  exact pointsTo_rep (c : Thread nD τ) (chunkAt (off k) (h k)) f _

/-- What of the argument stays on the device while its chunks are lent. -/
def kept : sProp 𝕄 := iprop((notLent c fullShare.left (xs m c) fun k => (srcP c k).view.set) ∗ notLent c fullShare.right (xs m c) fun k => (srcM c k).view.set)

theorem lendP : (((c : Thread nD τ).loc main_arg0) ↦{fullShare.left} xs m c : sProp 𝕄)
    = iprop(each (fun k => held (srcP c k) c (shP k) (hp m c k)) ∗ notLent c fullShare.left (xs m c) fun k => (srcP c k).view.set) :=
  lend c fullShare.left (xs m c) (fun k => k0_off1 c (BitVec.ofNat 32 (64 * k.val))) (k0_off1_inb c)
theorem lendM : (((c : Thread nD τ).loc main_arg0) ↦{fullShare.right} xs m c : sProp 𝕄)
    = iprop(each (fun k => held (srcM c k) c (shM k) (hm m c k)) ∗ notLent c fullShare.right (xs m c) fun k => (srcM c k).view.set) :=
  lend c fullShare.right (xs m c) (fun k => k0_off2 c (BitVec.ofNat 32 (64 * k.val))) (k0_off2_inb c)

/-- The argument is its sixteen lent chunks and what is kept. -/
theorem argument_eq : (((c : Thread nD τ).loc main_arg0) ↦{fullShare} xs m c : sProp 𝕄)
    = iprop((each (fun k => held (srcP c k) c (shP k) (hp m c k)) ∗ each (fun k => held (srcM c k) c (shM k) (hm m c k))) ∗ kept m c) := by
  have h := pointsTo_share (Ix := Unit) (Name := ℕ) (U := UU) (Lvl := ℕ) (ℓ := ((c : Thread nD τ).loc main_arg0)) (I := Finset.univ) (f := xs m c)
    (PosShare.mem_left_op_right fullShare)
  rw [Entails.antisymm h.1 h.2, lendP, lendM]
  unfold kept
  exact Entails.antisymm (sep_sep_sep_comm (PROP := sProp 𝕄)).1 (sep_sep_sep_comm (PROP := sProp 𝕄)).2

/-! ## The result -/

/-- The rectangles of the device's own chunks of the result, and of its row neighbour's. -/
abbrev rectO (k : Fin 8) : Rect S1024x512 := Rect.unit (s := S1024x512) (k0_off3 c (BitVec.ofNat 32 (64 * k.val))) S64x512.size (k0_off3_inb c k)
abbrev rectX (k : Fin 8) : Rect S1024x512 := Rect.unit (s := S1024x512) (k0_off4 c (BitVec.ofNat 32 (64 * k.val))) S64x512.size (k0_off4_inb c k)

theorem outO_set (k : Fin 8) : (outO c k).view.set = (rectO c k).set := View.set_slice_whole main_v1 (rectO c k)
theorem outX_set (k : Fin 8) : (outX c k).view.set = (rectX c k).set := View.set_slice_whole main_v1 (rectX c k)

/-- The sixteen chunks of the result. -/
def outSet : Fin 8 ⊕ Fin 8 → Finset S1024x512.Idx := Sum.elim (fun k => (rectO c k).set) (fun k => (rectX c k).set)

theorem mem_rectO (k : Fin 8) (i : S1024x512.Idx) :
    Iff (i ∈ (rectO c k).set) (512 * (c.val / 2) + 64 * k.val ≤ (i 0).val ∧ (i 0).val < 512 * (c.val / 2) + 64 * k.val + 64) := by
  have hi : (i 1).val < 512 := (i 1).isLt
  rw [Rect.mem_set_unit]
  simp only [k0_off3_eq]
  refine ⟨fun h => h 0, fun h a => ?_⟩
  fin_cases a
  · exact h
  · exact ⟨Nat.zero_le _, by show (i 1).val < 0 + 512; omega⟩

theorem mem_rectX (k : Fin 8) (i : S1024x512.Idx) :
    Iff (i ∈ (rectX c k).set) (64 * k.val + 512 - 512 * (c.val / 2) ≤ (i 0).val ∧ (i 0).val < 64 * k.val + 512 - 512 * (c.val / 2) + 64) := by
  have hi : (i 1).val < 512 := (i 1).isLt
  rw [Rect.mem_set_unit]
  simp only [k0_off4_eq]
  refine ⟨fun h => h 0, fun h a => ?_⟩
  fin_cases a
  · exact h
  · exact ⟨Nat.zero_le _, by show (i 1).val < 0 + 512; omega⟩

/-- The chunks do not overlap, -/
theorem out_disjoint (b b' : Fin 8 ⊕ Fin 8) (h : b ≠ b') : Disjoint (outSet c b) (outSet c b') := by
  have hc : c.val < 4 := c.isLt
  rw [Finset.disjoint_left]
  intro i hi hi'
  rcases b with k | k <;> rcases b' with k' | k'
  · have h1 := (mem_rectO c k i).mp hi; have h2 := (mem_rectO c k' i).mp hi'
    exact h (congrArg Sum.inl (Fin.ext (by omega)))
  · have h1 := (mem_rectO c k i).mp hi; have h2 := (mem_rectX c k' i).mp hi'; omega
  · have h1 := (mem_rectX c k i).mp hi; have h2 := (mem_rectO c k' i).mp hi'; omega
  · have h1 := (mem_rectX c k i).mp hi; have h2 := (mem_rectX c k' i).mp hi'
    exact h (congrArg Sum.inr (Fin.ext (by omega)))

/-- and are all of the result. -/
theorem out_cover : Finset.univ.biUnion (outSet c) = Finset.univ := by
  have hc : c.val < 4 := c.isLt
  ext i
  have hi : (i 0).val < 1024 := (i 0).isLt
  simp only [Finset.mem_biUnion, Finset.mem_univ, true_and, iff_true]
  by_cases h : (i 0).val / 512 = c.val / 2
  · exact ⟨.inl ⟨(i 0).val % 512 / 64, by omega⟩, (mem_rectO c ⟨(i 0).val % 512 / 64, by omega⟩ i).mpr (by dsimp only; omega)⟩
  · exact ⟨.inr ⟨(i 0).val % 512 / 64, by omega⟩, (mem_rectX c ⟨(i 0).val % 512 / 64, by omega⟩ i).mpr (by dsimp only; omega)⟩

/-- The result held whole is its sixteen chunks, free; -/
theorem out_split (f : Buf (Elt F) ((c : Thread nD τ).loc main_v1)) :
    (((c : Thread nD τ).loc main_v1) ↦{fullShare} f : sProp 𝕄) ⊢ iprop(each (fun k => free (outO c k) c) ∗ each fun k => free (outX c k) c) := by
  refine (Entails.of_eq ((Ring.pointsTo_blocks (ℓ := (c : Thread nD τ).loc main_v1) (outSet c) (out_disjoint c) (out_cover c) f).trans (bigSep_univ_sum _))).trans ?_
  refine BI.sep_mono (bigSep_mono fun k _ => ?_) (bigSep_mono fun k _ => ?_)
  · show (((c : Thread nD τ).loc main_v1) ↦[(rectO c k).set]{fullShare} f : sProp 𝕄) ⊢ free (outO c k) c
    unfold free; rw [outO_set]; iintro H; iexists f; iexact H
  · show (((c : Thread nD τ).loc main_v1) ↦[(rectX c k).set]{fullShare} f : sProp 𝕄) ⊢ free (outX c k) c
    unfold free; rw [outX_set]; iintro H; iexists f; iexact H

/-- The result of device `c` is right when its own rows read the sums `c` made, and the other rows those its row neighbour
    made. -/
def Right (g : Buf (Elt F) ((c : Thread nD τ).loc main_v1)) : Prop :=
  ∀ k, (outO c k).view.read (Elt F) g = sx m c k ∧ (outX c k).view.read (Elt F) g = sx m (peerX c) k

/-- A buffer that agrees with `X` on the elements of a piece reads `X` there. -/
theorem read_of_agree {sp : Space} {s : Shape} {e : EltTy} (M : Memref sig .tc sp s e) (X : s.Idx → Elt F e) (g : Buf (Elt F) (M.view.loc (c : Thread nD τ)))
    (h : ∀ i ∈ M.view.set, g i = M.view.rep X i) : M.view.read (Elt F) g = X := by
  rw [View.read_congr h, View.read_rep]

/-- Contents that agree with every chunk written are right. -/
theorem right_of_agree (g : Buf (Elt F) ((c : Thread nD τ).loc main_v1)) (hO : ∀ k, ∀ i ∈ (rectO c k).set, g i = (outO c k).view.rep (sx m c k) i)
    (hX : ∀ k, ∀ i ∈ (rectX c k).set, g i = (outX c k).view.rep (sx m (peerX c) k) i) : Right m c g := fun k =>
  ⟨read_of_agree c (outO c k) (sx m c k) g (by rw [outO_set]; exact hO k), read_of_agree c (outX c k) (sx m (peerX c) k) g (by rw [outX_set]; exact hX k)⟩

theorem heldO_eq : (each fun k => held (outO c k) c fullShare (sx m c k) : sProp 𝕄)
    = each fun k => ((c : Thread nD τ).loc main_v1) ↦[(rectO c k).set]{fullShare} (outO c k).view.rep (sx m c k) :=
  bigSep_congr fun k _ => by unfold held; rw [outO_set]
theorem heldX_eq : (each fun k => held (outX c k) c fullShare (sx m (peerX c) k) : sProp 𝕄)
    = each fun k => ((c : Thread nD τ).loc main_v1) ↦[(rectX c k).set]{fullShare} (outX c k).view.rep (sx m (peerX c) k) :=
  bigSep_congr fun k _ => by unfold held; rw [outX_set]

/-- Sixteen chunks at contents of their own are the result whole, agreeing with each. -/
theorem chunks_join (fO fX : Fin 8 → Buf (Elt F) ((c : Thread nD τ).loc main_v1)) :
    iprop((each fun k => ((c : Thread nD τ).loc main_v1) ↦[(rectO c k).set]{fullShare} fO k) ∗ each fun k => ((c : Thread nD τ).loc main_v1) ↦[(rectX c k).set]{fullShare} fX k)
      ⊢ (iprop(∃ g, ⌜(∀ k, ∀ i ∈ (rectO c k).set, g i = fO k i) ∧ ∀ k, ∀ i ∈ (rectX c k).set, g i = fX k i⌝ ∗ ((c : Thread nD τ).loc main_v1) ↦{fullShare} g) : sProp 𝕄) := by
  have hj := pointsTo_biUnion_join (Ix := Unit) (Name := ℕ) (U := UU) (Lvl := ℕ) (ℓ := ((c : Thread nD τ).loc main_v1)) (q := fullShare) Finset.univ (outSet c)
    (Sum.elim fO fX) (fO 0) (fun b _ b' _ h => out_disjoint c b b' h)
  rw [out_cover, bigSep_univ_sum] at hj
  refine BIBase.Entails.trans hj ?_
  iintro ⟨%g, %hg, H⟩
  iexists g
  isplitr
  · ipureintro
    exact ⟨fun k i hi => hg (.inl k) (Finset.mem_univ _) i hi, fun k i hi => hg (.inr k) (Finset.mem_univ _) i hi⟩
  iexact H

/-- The sixteen chunks written are the result whole, and right. -/
theorem out_join : iprop(each (fun k => held (outO c k) c fullShare (sx m c k)) ∗ each fun k => held (outX c k) c fullShare (sx m (peerX c) k))
    ⊢ (iprop(∃ g, ⌜Right m c g⌝ ∗ ((c : Thread nD τ).loc main_v1) ↦{fullShare} g) : sProp 𝕄) := by
  rw [heldO_eq, heldX_eq]
  iintro H
  ihave H' := (chunks_join c (fun k => (outO c k).view.rep (sx m c k)) (fun k => (outX c k).view.rep (sx m (peerX c) k))) $$ H
  icases H' with ⟨%g, %hg, H⟩
  iexists g
  isplitr
  · ipureintro; exact right_of_agree m c g hg.1 hg.2
  iexact H

/-! ## Everything back -/

/-- A scratch buffer held whole, at contents unknown. -/
abbrev scr (b : Ref sig .tc) : sProp 𝕄 := iprop(∃ f : Buf (Elt F) ((c : Thread nD τ).loc b), ((c : Thread nD τ).loc b) ↦{fullShare} f)

/-- The payloads the body ends with, and what of the argument was kept, are the argument unchanged, the result right, and
    the scratch buffers whole. -/
theorem pays_join : iprop(pays m c ∗ kept m c)
    ⊢ iprop((((c : Thread nD τ).loc main_arg0) ↦{fullShare} xs m c) ∗ (∃ g, ⌜Right m c g⌝ ∗ ((c : Thread nD τ).loc main_v1) ↦{fullShare} g)
        ∗ scr (F := F) c cc0_scratch0 ∗ scr (F := F) c cc0_scratch1 ∗ scr (F := F) c cc0_scratch2 ∗ scr (F := F) c cc0_scratch3 ∗ scr (F := F) c cc0_scratch4 ∗ scr (F := F) c cc0_scratch5) := by
  have hsx : iprop(each (fun k => held (slot sxM k) c fullShare.left (sx m c k)) ∗ each fun k => held (slot sxM k) c fullShare.right (sx m c k))
      ⊢ each fun k => held (slot sxM k) c fullShare (sx m c k) := by
    rw [← each_sep]; exact bigSep_mono fun k _ => (held_halves (slot sxM k) c (sx m c k)).2
  unfold pays
  unfold pay
  rw [each_sep, each_sep, each_sep, each_sep, argument_eq]
  iintro ⟨⟨⟨Hvp, HsP⟩, ⟨Hvm, HsM⟩, Hsy, Hry, Hl, ⟨HoO, Hr⟩, HoX, Hrx⟩, Hkept⟩
  isplitl [HsP HsM Hkept]
  · isplitr [Hkept]
    · isplitl [HsP] <;> iassumption
    iexact Hkept
  isplitl [HoO HoX]
  · iapply (out_join m c)
    isplitl [HoO] <;> iassumption
  isplitl [Hvp]; · iapply (slots_join_held c vpM (Memref.isWhole_whole _) _); iexact Hvp
  isplitl [Hvm]; · iapply (slots_join_held c vmM (Memref.isWhole_whole _) _); iexact Hvm
  isplitl [Hsy]; · iapply (slots_join_held c syM (Memref.isWhole_whole _) _); iexact Hsy
  isplitl [Hry]; · iapply (slots_join_held c ryM (Memref.isWhole_whole _) _); iexact Hry
  isplitl [Hl Hr]
  · ihave Hsx := hsx $$ [Hl Hr]
    · isplitl [Hl] <;> iassumption
    iapply (slots_join_held c sxM (Memref.isWhole_whole _) _); iexact Hsx
  iapply (slots_join_held c rxM (Memref.isWhole_whole _) _); iexact Hrx

end Cert.MeshReduce

end
-- ==== Proof.Ghost.lean ====
/-
# What the launch deals out

The rounds of every cell are set up at once, on all devices together; then every device holds the position of each of its
own cells, the tokens of the duties it pays, wherever the cell lies, and the credit its neighbours owe its cells.
-/
module

public import proofs.«01_k».proof.Proof.Buffers

@[expose] public section

noncomputable section

namespace Cert.MeshReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families and cells -/

/-- A resource of every family and chunk, family by family; -/
theorem families (Φ : Fin 8 × Fin 8 → sProp 𝕄) : bigSep Finset.univ Φ
    = iprop(each (fun k => Φ (0, k)) ∗ each (fun k => Φ (1, k)) ∗ each (fun k => Φ (2, k)) ∗ each (fun k => Φ (3, k))
      ∗ each (fun k => Φ (4, k)) ∗ each (fun k => Φ (5, k)) ∗ each (fun k => Φ (6, k)) ∗ each (fun k => Φ (7, k))) := by
  rw [bigSep_univ_prod]; exact each_list _

/-- of every cell: the barrier's and the families'. -/
theorem cells_eq (Φ : CI → sProp 𝕄) : bigSep Finset.univ Φ = iprop(Φ none ∗ bigSep Finset.univ fun fk => Φ (some fk)) := by
  rw [bigSep_univ_at Φ none, show Finset.univ.erase (none : CI) = Finset.univ.map Function.Embedding.some by decide, bigSep_map]; rfl

/-- The semaphores of the kernel's own. -/
def osem (fk : Fin 8 × Fin 8) : SemLoc sig := .dma (dsem fk.1 fk.2)

theorem ownSemFacts : Pipeline.OwnSemFacts cfg0.spec osem where
  isScoped := by decide
  inj a b h := by
    obtain ⟨h₁, h₂⟩ := dsem_inj (by injection h : dsem a.1 a.2 = dsem b.1 b.2)
    exact Prod.ext h₁ h₂
  disj fk w := w.elim0

theorem ownSems0_families (c : Dev nD) : (Pipeline.ownSems0 (Ix := Unit) (Name := ℕ) (U := UU) (Lvl := ℕ) (Val := Elt F) (τ := τ) osem c : sProp 𝕄)
    = bigSep Finset.univ fun fk : Fin 8 × Fin 8 => zero c fk.1 fk.2 := rfl
theorem unscopedSems0_bar (c : Dev nD) : (unscopedSems0 c : sProp 𝕄) = semVal (barCell c) 0 := by
  unfold unscopedSems0; rw [bigSep_eq_bigSepL_of_eq [SemLoc.reg barS] (by decide) (by decide)]; rfl

/-- The counters the body leaves at zero are all of the device's. -/
theorem zeros_sems (c : Dev nD) : (zeros c : sProp 𝕄)
    = iprop(Pipeline.ownSems0 (Ix := Unit) (Name := ℕ) (U := UU) (Lvl := ℕ) (Val := Elt F) (τ := τ) osem c ∗ unscopedSems0 c) := by
  rw [ownSems0_families, unscopedSems0_bar, families]; rfl

theorem sems_cells (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_families, unscopedSems0_bar, cells_eq]
  exact BI.sep_comm

/-! ## The rounds -/

/-- A device's duties, as minted: the barrier's two, and one of every DMA cell. -/
abbrev TI : Type := Bool ⊕ (Fin 8 × Fin 8)
def duty (ci : Dev nD × TI) : GSem nD τ sig × ℕ × Bool := match ci.2 with
  | .inl d => (barCell ci.1, 0, d)
  | .inr fk => (dcell ci.1 fk.1 fk.2, 0, false)

theorem duty_injective : Function.Injective duty := by
  rintro ⟨c, i⟩ ⟨c', i'⟩ h
  match i, i', h with
  | .inl d, .inl d', h =>
    have h₁ : c = c' := congrArg (fun x : GSem nD τ sig × ℕ × Bool => x.1.1.1) h
    have h₂ : d = d' := congrArg (fun x : GSem nD τ sig × ℕ × Bool => x.2.2) h
    rw [h₁, h₂]
  | .inl d, .inr fk, h => exact absurd (congrArg Prod.fst h).symm dcell_ne_bar
  | .inr fk, .inl d, h => exact absurd (congrArg Prod.fst h) dcell_ne_bar
  | .inr fk, .inr fk', h =>
    obtain ⟨h₁, h₂, h₃⟩ := dcell_iff.mp (congrArg Prod.fst h)
    exact Prod.ext h₁ (congrArg Sum.inr (Prod.ext h₂ h₃))

def meshCells : Finset (GSem nD τ sig) := Finset.univ.map ⟨kcell, kcell_injective⟩
def meshDuties : Finset (GSem nD τ sig × ℕ × Bool) := Finset.univ.map ⟨duty, duty_injective⟩

/-- The ghost state the run starts from. -/
def ghost₀ : UU := (initOf (Pipeline.cells cfgs cellOf_inj) (Pipeline.launchToks cfgs cellOf_inj), initOf meshCells meshDuties)

/-- The tokens of the duties of `c`'s own cells; -/
def minted (c : Dev nD) : sProp 𝕄 :=
  iprop((dutyTok ER (barCell c) 0 false ∗ dutyTok ER (barCell c) 0 true) ∗ bigSep Finset.univ fun fk : Fin 8 × Fin 8 => tok c fk.1 fk.2)
/-- of the duties `c` pays. -/
def paid (c : Dev nD) : sProp 𝕄 :=
  iprop((dutyTok ER (barCell (peerY c)) 0 false ∗ dutyTok ER (barCell (peerX c)) 0 true)
    ∗ each (tok c 0) ∗ each (tok c 1) ∗ each (tok c 2) ∗ each (tok (peerY c) 3) ∗ each (tok c 4) ∗ each (tok (peerX c) 5) ∗ each (tok c 6) ∗ each (tok c 7))

/-- The duties change hands: every neighbour's to the one who pays it. -/
theorem minted_paid : (bigSep Finset.univ fun c : Dev nD => (minted c : sProp 𝕄)) ⊢ bigSep Finset.univ fun c : Dev nD => paid c := by
  unfold minted paid
  simp only [families]
  simp only [bigSep_sep']
  rw [bigSep_univ_equiv flipY (fun c : Dev nD => (dutyTok ER (barCell c) 0 false : sProp 𝕄)),
    bigSep_univ_equiv flipX (fun c : Dev nD => (dutyTok ER (barCell c) 0 true : sProp 𝕄)),
    bigSep_univ_equiv flipY (fun c : Dev nD => each fun k => (tok c 3 k : sProp 𝕄)),
    bigSep_univ_equiv flipX (fun c : Dev nD => each fun k => (tok c 5 k : sProp 𝕄))]
  exact BIBase.Entails.rfl

/-- What the ghost state deals device `c`. -/
def dealt (c : Dev nD) : sProp 𝕄 :=
  iprop((bigSep Finset.univ fun i : CI => roundState ER (sched m) (kcell (c, i)) 0)
    ∗ ((bigSep Finset.univ fun i : CI => atPos ER (kcell (c, i)) 0 ∅ 0) ∗ bigSep Finset.univ fun i : CI => reached ER (kcell (c, i)) 0) ∗ minted c)

theorem fund_mesh : BI.own (ER (initOf meshCells meshDuties)) ⊢ (|==> bigSep Finset.univ (dealt m) : sProp 𝕄) := by
  have hC (Φ : GSem nD τ sig → sProp 𝕄) : bigSep meshCells Φ = bigSep Finset.univ fun c : Dev nD => bigSep Finset.univ fun i : CI => Φ (kcell (c, i)) := by
    unfold meshCells; rw [bigSep_map, bigSep_univ_prod]; rfl
  have hT : bigSep meshDuties (fun x => (dutyTok ER x.1 x.2.1 x.2.2 : sProp 𝕄)) = bigSep Finset.univ fun c : Dev nD => minted c := by
    unfold meshDuties; rw [bigSep_map, bigSep_univ_prod]
    refine bigSep_congr fun c _ => ?_
    unfold minted; rw [bigSep_univ_sum, bigSep_univ_eq_bigSepL [false, true] (by decide) (by decide)]; rfl
  have hX := Rounds.fund ER (sched m) meshCells meshDuties
  rw [hC, hC, hC, hT] at hX
  unfold dealt
  simp only [bigSep_sep']
  iintro H
  imod hX $$ H with ⟨Hst, Hr, Hat, Htok⟩
  imodintro
  isplitl [Hst]; · iexact Hst
  isplitl [Hat Hr]
  · isplitl [Hat] <;> iassumption
  iexact Htok

/-- The cells' invariants, and that no round is over. -/
def records (K : Dev nD × CI → ℕ) : sProp 𝕄 :=
  iprop((bigSep Finset.univ fun ck : Dev nD × CI => cellInv ER (sched m) (K ck) (kcell ck)) ∗ bigSep Finset.univ fun ck : Dev nD × CI => reached ER (kcell ck) 0)
instance records_persistent (K : Dev nD × CI → ℕ) : BI.Persistent (records m K) := by unfold records; infer_instance

theorem records_known (K : Dev nD × CI → ℕ) : iprop(records m K ∗ levAts L lv) ⊢ known m K := by
  unfold records known
  iintro ⟨⟨HI, HR⟩, HL⟩
  isplitl [HI]; · iexact HI
  isplitl [HR] <;> iassumption

/-- The positions of a device's own cells and the tokens it pays with. -/
def owned (c : Dev nD) : sProp 𝕄 := iprop((bigSep Finset.univ fun i : CI => atPos ER (kcell (c, i)) 0 ∅ 0) ∗ paid c)

/-- What a device has once the cells are set up. -/
def ready (c : Dev nD) : sProp 𝕄 := iprop(∃ K, records m K ∗ owned c)

/-- A device's cells are set up: counters at zero and fresh round states become invariants; -/
theorem set_up (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i : CI => iprop(∃ κ : ℕ, cellInv ER (sched m) κ (kcell (c, i))))
          ∗ ((bigSep Finset.univ fun i : CI => atPos ER (kcell (c, i)) 0 ∅ 0) ∗ bigSep Finset.univ fun i : CI => reached ER (kcell (c, i)) 0) ∗ minted c) := by
  have hinv : iprop((bigSep Finset.univ fun i : CI => semVal (kcell (c, i)) 0) ∗ bigSep Finset.univ fun i : CI => roundState ER (sched m) (kcell (c, i)) 0)
      ⊢ (|={Set.univ}=> bigSep Finset.univ fun i : CI => iprop(∃ κ : ℕ, cellInv ER (sched m) κ (kcell (c, i))) : sProp 𝕄) := by
    rw [← bigSep_sep']
    exact (bigSep_mono fun i _ => (Rounds.body_intro ER (sched m) (kcell (c, i))).trans inv_alloc).trans (bigSep_fupd _ _)
  unfold dealt
  iintro ⟨Hos, Hus, Hst, Hat, Htok⟩
  ihave Hv := (sems_cells (F := F) c) $$ [Hos Hus]
  · isplitl [Hos] <;> iassumption
  imod hinv $$ [Hv Hst] with Hinv
  · isplitl [Hv] <;> iassumption
  imodintro
  isplitl [Hinv]; · iexact Hinv
  isplitl [Hat] <;> iassumption

/-- the invariants of all devices are known to each. -/
theorem gather :
    (bigSep Finset.univ fun c : Dev nD => iprop((bigSep Finset.univ fun i : CI => iprop(∃ κ : ℕ, cellInv ER (sched m) κ (kcell (c, i))))
          ∗ ((bigSep Finset.univ fun i : CI => atPos ER (kcell (c, i)) 0 ∅ 0) ∗ bigSep Finset.univ fun i : CI => reached ER (kcell (c, i)) 0) ∗ minted c) : sProp 𝕄)
      ⊢ bigSep Finset.univ (ready m) := by
  have hown (K : Dev nD × CI → ℕ) : iprop(records m K ∗ bigSep Finset.univ fun c : Dev nD => owned c) ⊢ bigSep Finset.univ (ready m) := by
    have hall : records m K ⊢ bigSep Finset.univ fun _ : Dev nD => records m K := BI.bigSep_of_persistent _ _
    refine BIBase.Entails.trans (BIClass.sep_mono hall .rfl) ?_
    rw [← bigSep_sep']
    refine bigSep_mono fun c _ => ?_
    show iprop(records m K ∗ owned c) ⊢ ready m c
    unfold ready
    iintro H; iexists K; iexact H
  rw [bigSep_sep', bigSep_sep', bigSep_sep', ← bigSep_univ_prod (fun ck : Dev nD × CI => iprop(∃ κ : ℕ, cellInv ER (sched m) κ (kcell ck))),
    ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (sched m) κ (kcell ck) : sProp 𝕄))) $$ HI
  icases HK with ⟨%K, HI⟩
  ihave Htok' := (minted_paid (F := F)) $$ Htok
  iapply (hown K)
  unfold records owned
  rw [bigSep_sep']
  isplitl [HI HR]
  · isplitl [HI] <;> iassumption
  isplitl [Hat] <;> iassumption

/-- The cells of all devices set up together. -/
theorem set_up_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => set_up m c).trans (bigSep_fupd _ _)).trans (BI.fupd_mono (gather m))

/-! ## The credit -/

/-- What listed chunks owe a DMA cell, -/
theorem owedOn_dma (f f' k : Fin 8) (p c : Dev nD) : ∀ l : List (Fin 8),
    owedOn f p l (dcell c f' k) () = if p = c ∧ f = f' then l.count k * amt f else 0
  | [] => by simp [owedOn]
  | k' :: l => by
    rw [owedOn, Pi.add_apply, Finsupp.add_apply, owedOn_dma f f' k p c l, tallyAt_apply]
    by_cases h : p = c ∧ f = f'
    · obtain ⟨rfl, rfl⟩ := h
      by_cases hk : k' = k
      · subst hk; simp [add_mul]
      · rw [if_neg (fun h : dcell p f k = dcell p f k' ∧ () = () => hk (dcell_iff.mp h.1).2.2.symm), Nat.add_zero, List.count_cons_of_ne hk]
    · rw [if_neg h, if_neg h, if_neg (fun h' : dcell c f' k = dcell p f k' ∧ () = () => h ⟨(dcell_iff.mp h'.1).1.symm, (dcell_iff.mp h'.1).2.1.symm⟩)]
/-- and a barrier cell. -/
theorem owedOn_bar (f : Fin 8) (p c : Dev nD) : ∀ l : List (Fin 8), owedOn f p l (barCell c) () = 0
  | [] => rfl
  | k :: l => by rw [owedOn, Pi.add_apply, Finsupp.add_apply, owedOn_bar f p c l, tallyAt_ne_cell dcell_ne_bar.symm]; rfl

theorem count_all (k : Fin 8) : all.count k = 1 := by revert k; decide

/-- At launch `d` owes a barrier cell a unit if a neighbour's; -/
theorem launch_owed_bar (d c : Dev nD) : O₀ d (barCell c) () = (if d = peerX c then 1 else 0) + (if d = peerY c then 1 else 0) := by
  have hX : Iff (c = peerX d) (d = peerX c) := ⟨fun h => by rw [h, peerX_peerX], fun h => by rw [h, peerX_peerX]⟩
  have hY : Iff (c = peerY d) (d = peerY c) := ⟨fun h => by rw [h, peerY_peerY], fun h => by rw [h, peerY_peerY]⟩
  unfold O₀ O₁ owed
  rw [Pi.add_apply, Finsupp.add_apply, Pi.add_apply, Finsupp.add_apply, Pi.add_apply, Finsupp.add_apply, owedOn_bar, owedOn_bar, tallyAt_apply, tallyAt_apply]
  simp only [barCell_iff, and_true, hX, hY, Nat.zero_add]
/-- a DMA cell the transfer into it, if a column neighbour's receive cell or a row neighbour's. -/
theorem launch_owed_dma (d c : Dev nD) (f k : Fin 8) : O₀ d (dcell c f k) ()
    = (if d = peerX c ∧ 5 = f then amt 5 else 0) + (if d = peerY c ∧ 3 = f then amt 3 else 0) := by
  have hX : Iff (peerX d = c) (d = peerX c) := ⟨fun h => by rw [← h, peerX_peerX], fun h => by rw [h, peerX_peerX]⟩
  have hY : Iff (peerY d = c) (d = peerY c) := ⟨fun h => by rw [← h, peerY_peerY], fun h => by rw [h, peerY_peerY]⟩
  unfold O₀ O₁ owed
  rw [Pi.add_apply, Finsupp.add_apply, Pi.add_apply, Finsupp.add_apply, Pi.add_apply, Finsupp.add_apply, owedOn_dma, owedOn_dma, tallyAt_ne_cell dcell_ne_bar,
    tallyAt_ne_cell dcell_ne_bar, count_all, Nat.one_mul, Nat.one_mul]
  simp only [hX, hY, Finsupp.zero_apply, Nat.add_zero]

/-- So a barrier cell is owed two units; -/
theorem credit_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => launch_owed_bar d c, Finset.sum_add_distrib,
    Finset.sum_ite_eq' Finset.univ (peerX c) fun _ => 1, Finset.sum_ite_eq' Finset.univ (peerY c) fun _ => 1, if_pos (Finset.mem_univ _), if_pos (Finset.mem_univ _)]
/-- a column receive cell a chunk, -/
theorem credit_column (c : Dev nD) (k : Fin 8) :
    tallyOn (dcell c 3 k) (launchCredit (Pipeline.owing O₀) 0 (dcell c 3 k)) = (tallyAt (dcell c 3 k) () (amt 3) : CellTallies nD τ sig Unit) := by
  unfold tallyAt
  refine congrArg _ (Finsupp.ext fun u => ?_)
  cases u
  rw [Pipeline.launchCredit_owing, Finsupp.single_eq_same,
    Finset.sum_congr rfl fun d _ => (launch_owed_dma d c 3 k).trans (by rw [if_neg (fun h => absurd h.2 (by decide)), Nat.zero_add]; simp only [and_true] : _ = if d = peerY c then amt 3 else 0),
    Finset.sum_ite_eq' Finset.univ (peerY c) fun _ => amt 3, if_pos (Finset.mem_univ _)]
/-- and so a row receive cell. -/
theorem credit_row (c : Dev nD) (k : Fin 8) :
    tallyOn (dcell c 5 k) (launchCredit (Pipeline.owing O₀) 0 (dcell c 5 k)) = (tallyAt (dcell c 5 k) () (amt 5) : CellTallies nD τ sig Unit) := by
  unfold tallyAt
  refine congrArg _ (Finsupp.ext fun u => ?_)
  cases u
  rw [Pipeline.launchCredit_owing, Finsupp.single_eq_same,
    Finset.sum_congr rfl fun d _ => (launch_owed_dma d c 5 k).trans (by rw [if_neg (fun h : d = peerY c ∧ (3 : Fin 8) = 5 => absurd h.2 (by decide)), Nat.add_zero]; simp only [and_true] : _ = if d = peerX c then amt 5 else 0),
    Finset.sum_ite_eq' Finset.univ (peerX c) fun _ => amt 5, if_pos (Finset.mem_univ _)]

/-- The credit a device is launched with. -/
theorem credits (c : Dev nD) : (Pipeline.launchCred O₀ c : sProp 𝕄) ⊢ iprop(cred (tallyAt (barCell c) () 2) ∗ each (crd c 3) ∗ each (crd c 5)) := by
  unfold Pipeline.launchCred
  refine BIBase.Entails.trans (BI.bigSep_subset (Finset.subset_univ (Finset.univ.map ⟨csem, csem_injective⟩))) ?_
  rw [bigSep_map, cells_eq, families]
  have hB := credit_bar c
  have h3 : (each fun k => cred (tallyOn (dcell c 3 k) (launchCredit (Pipeline.owing O₀) 0 (dcell c 3 k))) : sProp 𝕄) = each (crd c 3) :=
    bigSep_congr fun k _ => by rw [credit_column]
  have h5 : (each fun k => cred (tallyOn (dcell c 5 k) (launchCredit (Pipeline.owing O₀) 0 (dcell c 5 k))) : sProp 𝕄) = each (crd c 5) :=
    bigSep_congr fun k _ => by rw [credit_row]
  show iprop(cred (tallyOn (barCell c) (launchCredit (Pipeline.owing O₀) 0 (barCell c))) ∗ _ ∗ _ ∗ _
    ∗ (each fun k => cred (tallyOn (dcell c 3 k) (launchCredit (Pipeline.owing O₀) 0 (dcell c 3 k)))) ∗ _
    ∗ (each fun k => cred (tallyOn (dcell c 5 k) (launchCredit (Pipeline.owing O₀) 0 (dcell c 5 k)))) ∗ _ ∗ _) ⊢ _
  rw [hB, h3, h5]
  iintro ⟨H, -, -, -, H3, -, H5, -, -⟩
  isplitl [H]; · iexact H
  isplitl [H3] <;> iassumption

end Cert.MeshReduce

end
-- ==== Proof.Launch.lean ====
/-
# The run

The kernel launched on all four devices: every execution ends, with the argument unchanged, the result right on every
chunk, and every counter at zero.
-/
module

public import proofs.«01_k».proof.Proof.Ghost
public import proofs.«01_k».proof.Proof.Gen.KernelIdeal.Points
public import Idealize.ShloMosaic.Lib.Pipeline.CollectiveSegs

@[expose] public section

noncomputable section

namespace Cert.MeshReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- The scratch buffers, at contents unknown. -/
def scratch (c : Dev nD) : sProp 𝕄 :=
  iprop(scr c cc0_scratch0 ∗ scr c cc0_scratch1 ∗ scr c cc0_scratch2 ∗ scr c cc0_scratch3 ∗ scr c cc0_scratch4 ∗ scr c cc0_scratch5)

/-- What a device is launched with: the cells and its part in them, its credit, the argument and the result buffer. -/
def launched (c : Dev nD) : sProp 𝕄 :=
  iprop((∃ K, known m K ∗ owned c) ∗ (cred (tallyAt (barCell c) () 2) ∗ each (crd c 3) ∗ each (crd c 5))
    ∗ (((c : Thread nD τ).loc main_arg0) ↦{fullShare} xs m c) ∗ scr c main_v1)

/-- What it ends with: the argument unchanged and the result right. -/
def result (c : Dev nD) : sProp 𝕄 :=
  iprop((((c : Thread nD τ).loc main_arg0) ↦{fullShare} xs m c) ∗ ∃ g, ⌜Right m c g⌝ ∗ ((c : Thread nD τ).loc main_v1) ↦{fullShare} g)

/-- The chunks' resources, sorted by the loop that needs them. -/
theorem sorted (c : Dev nD) :
    iprop((each (fun k => held (srcP c k) c (shP k) (hp m c k)) ∗ each fun k => held (srcM c k) c (shM k) (hm m c k))
      ∗ (freeSlots vpM c ∗ freeSlots vmM c ∗ freeSlots syM c ∗ freeSlots sxM c) ∗ (each (fun k => free (outO c k) c) ∗ each fun k => free (outX c k) c)
      ∗ (each (pos c 0) ∗ each (pos c 1) ∗ each (pos c 3) ∗ each (pos c 5))
      ∗ (each (tok c 0) ∗ each (tok c 1) ∗ each (tok c 2) ∗ each (tok (peerY c) 3) ∗ each (tok c 4) ∗ each (tok (peerX c) 5) ∗ each (tok c 6) ∗ each (tok c 7))
      ∗ each (crd c 3) ∗ each (crd c 5))
    ⊢ (iprop(each (needP m c) ∗ each (needM m c) ∗ each (needY c) ∗ each (needX c) ∗ each (needPlace c)) : sProp 𝕄) := by
  unfold needP needM needY needX needPlace freeSlots
  simp only [bigSep_sep']
  iintro ⟨⟨HsP, HsM⟩, ⟨Hvp, Hvm, Hsy, Hsx⟩, ⟨HoO, HoX⟩, ⟨P0, P1, P3, P5⟩, ⟨T0, T1, T2, T3, T4, T5, T6, T7⟩, C3, C5⟩
  isplitl [HsP Hvp T0]
  · isplitl [HsP]; · iexact HsP
    isplitl [Hvp] <;> iassumption
  isplitl [HsM Hvm T1]
  · isplitl [HsM]; · iexact HsM
    isplitl [Hvm] <;> iassumption
  isplitl [P0 Hsy T2 T3]
  · isplitl [P0]; · iexact P0
    isplitl [Hsy]; · iexact Hsy
    isplitl [T2] <;> iassumption
  isplitl [C3 P3 P1 Hsx T4 T5 HoO T6]
  · isplitl [C3]; · iexact C3
    isplitl [P3]; · iexact P3
    isplitl [P1]; · iexact P1
    isplitl [Hsx]; · iexact Hsx
    isplitl [T4]; · iexact T4
    isplitl [T5]; · iexact T5
    isplitl [HoO] <;> iassumption
  isplitl [C5]; · iexact C5
  isplitl [P5]; · iexact P5
  isplitl [HoX] <;> iassumption

/-- The positions of a device's cells, cell by cell. -/
theorem positions (c : Dev nD) : (bigSep Finset.univ fun i : CI => (atPos ER (kcell (c, i)) 0 ∅ 0 : sProp 𝕄))
    = iprop(atPos ER (barCell c) 0 ∅ 0 ∗ each (pos c 0) ∗ each (pos c 1) ∗ each (pos c 2) ∗ each (pos c 3) ∗ each (pos c 4) ∗ each (pos c 5)
      ∗ each (pos c 6) ∗ each (pos c 7)) := by
  rw [cells_eq, families]; rfl

/-- From what it is launched with a device starts the body, keeping the part of the argument it does not lend. -/
theorem launched_start (c : Dev nD) :
    iprop(launched m c ∗ scratch c ∗ owing c (O₀ c)) ⊢ (iprop(∃ K, start m K c ∗ kept m c) : sProp 𝕄) := by
  unfold launched scratch owned paid
  rw [argument_eq, positions]
  iintro ⟨⟨⟨%K, #HK, ⟨Hbar, P0, P1, P2, P3, P4, P5, P6, P7⟩, ⟨TY, TX⟩, HT⟩, ⟨Cbar, C3, C5⟩, ⟨Hs, Hkept⟩, ⟨%g, Hout⟩⟩, ⟨S0, S1, S2, S3, S4, S5⟩, HO⟩
  ihave Hvp := (slots_split (F := F) c vpM (Memref.isWhole_whole _)) $$ S0
  ihave Hvm := (slots_split (F := F) c vmM (Memref.isWhole_whole _)) $$ S1
  ihave Hsy := (slots_split (F := F) c syM (Memref.isWhole_whole _)) $$ S2
  ihave Hry := (slots_split (F := F) c ryM (Memref.isWhole_whole _)) $$ S3
  ihave Hsx := (slots_split (F := F) c sxM (Memref.isWhole_whole _)) $$ S4
  ihave Hrx := (slots_split (F := F) c rxM (Memref.isWhole_whole _)) $$ S5
  ihave Ho := (out_split (F := F) c g) $$ Hout
  iexists K
  isplitr [Hkept]
  · unfold start
    isplitr; · iexact HK
    isplitl [TY TX Cbar Hbar]
    · isplitl [TY]; · iexact TY
      isplitl [TX]; · iexact TX
      isplitl [Cbar] <;> iassumption
    isplitl [Hry Hrx]
    · isplitl [Hry] <;> iassumption
    isplitl [Hs Hvp Hvm Hsy Hsx Ho P0 P1 P3 P5 HT C3 C5]
    · iapply (sorted m c)
      isplitl [Hs]; · iexact Hs
      isplitl [Hvp Hvm Hsy Hsx]
      · isplitl [Hvp]; · iexact Hvp
        isplitl [Hvm]; · iexact Hvm
        isplitl [Hsy] <;> iassumption
      isplitl [Ho]; · iexact Ho
      isplitl [P0 P1 P3 P5]
      · isplitl [P0]; · iexact P0
        isplitl [P1]; · iexact P1
        isplitl [P3] <;> iassumption
      isplitl [HT]; · iexact HT
      isplitl [C3] <;> iassumption
    isplitl [P2 P4 P6 P7]
    · isplitl [P2]; · iexact P2
      isplitl [P4]; · iexact P4
      isplitl [P6] <;> iassumption
    iexact HO
  iexact Hkept

/-- The body, from launch to result. -/
theorem body_run (c : Dev nD) :
    iprop(launched m c ∗ scratch c ∗ owing c (O₀ c))
      ⊢ run c staged fun _ => iprop((zeros c ∗ result m c ∗ scratch c) ∗ owing c 0) := by
  refine BIBase.Entails.trans (launched_start m c) ?_
  iintro ⟨%K, Hs, Hkept⟩
  iapply (body_step m K c fun _ => iprop((zeros c ∗ result m c ∗ scratch c) ∗ owing c 0)) $$ Hs
  iintro ⟨Hp, Hz, HO⟩
  ihave H := (pays_join m c) $$ [Hp Hkept]
  · isplitl [Hp] <;> iassumption
  icases H with ⟨Hx, Hout, Hscr⟩
  isplitr [HO]
  · isplitl [Hz]; · iexact Hz
    isplitl [Hx Hout]
    · unfold result; isplitl [Hx] <;> iassumption
    unfold scratch; iexact Hscr
  iexact HO

/-! ## The region -/

/-- The region has no windows: between its points only the invariant changes. -/
def dats (_ : Fin 1) (c : Dev nD) : Dat τ (Elt F) Unit ℕ UU ℕ cfg0 c where
  A w := w.elim0
  after w _ := w.elim0
  Φ t := match t with
    | ⟨0, _⟩ => iprop(launched m c ∗ scratch c)
    | ⟨_ + 1, _⟩ => iprop(zeros c ∗ result m c ∗ scratch c)
  q w := w.elim0
  owed t := match t with
    | ⟨0, _⟩ => O₀ c
    | ⟨_ + 1, _⟩ => 0

set_option maxRecDepth 100000 in
/-- The body does what the region asks of its one point. -/
theorem body_obligation (c : Dev nD) : BodyObligation (dats m 0 c) (defs₀ (F := F)) 𝒱₀ () Set.univ := fun t => by
  have hb := body_run m c
  unfold run at hb
  rw [← body_eq_staged] at hb
  rw [fin_N0 t]
  refine BIBase.Entails.trans ?_ (BIBase.Entails.trans hb (wp_mono frame _ Set.univ fun _ => ?_))
  · show iprop((launched m c ∗ scratch c) ∗ (∃ W, ⌜_⌝ ∗ owes (c : Thread nD τ) (O₀ c) W) ∗ _) ⊢ _
    unfold owing
    iintro ⟨⟨Hl, Hs⟩, ⟨%W, -, HO⟩, -⟩
    isplitl [Hl]; · iexact Hl
    isplitl [Hs]; · iexact Hs
    iexists W; iexact HO
  · rw [bigSep_univ_eq_bigSepL [] (by decide) (by decide)]
    show iprop((zeros c ∗ result m c ∗ scratch c) ∗ owing c 0)
      ⊢ iprop((zeros c ∗ result m c ∗ scratch c) ∗ (∃ W, ⌜↑W ⊆ (dats m 0 c).bound () t0_0.succ⌝ ∗ owes (c : Thread nD τ) 0 W) ∗ emp)
    unfold owing
    iintro ⟨H, %W, HO⟩
    isplitl [H]; · iexact H
    isplitl [HO]
    · iexists W
      isplitr; · ipureintro; exact fun _ _ => Or.inl trivial
      iexact HO
    iempintro

/-- What a device ends with tells of its memory: the argument unchanged, the result right. -/
theorem result_read (c : Dev nD) (s : Phys nD τ sig (Elt F)) :
    iprop(result m c ∗ SI s) ⊢ (iprop(⌜s.mem.mem ((c : Thread nD τ).loc main_arg0) = xs m c ∧ Right m c (s.mem.mem ((c : Thread nD τ).loc main_v1))⌝ ∗ SI s) : sProp 𝕄) := by
  unfold result
  iintro ⟨⟨Hx, %g, %hg, Ho⟩, HSI⟩
  icombine HSI Hx gives %hx
  icombine HSI Ho gives %ho
  isplitr
  · ipureintro
    exact ⟨Buf.eq_of_forall_mem_univ hx, by rw [Buf.eq_of_forall_mem_univ ho]; exact hg⟩
  iexact HSI

theorem launched_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(launched m c ∗ emp) := by
  rw [Pipeline.unscopedRestP_none, unscopedRest0_eq]
  unfold ready launched
  iintro ⟨⟨Hx, Ho⟩, Hlev, Hcr, -, %K, Hrec, Hown⟩
  ihave Hc := (credits (F := F) c) $$ Hcr
  ihave HK := (records_known m K) $$ [Hrec Hlev]
  · isplitl [Hrec] <;> iassumption
  imodintro
  isplitl
  · isplitl [HK Hown]
    · iexists K; isplitl [HK] <;> iassumption
    isplitl [Hc]; · iexact Hc
    isplitl [Hx]; · iexact Hx
    iexists _; iexact Ho
  iempintro

theorem launched_in (c : Dev nD) :
    iprop(launched m c ∗ Pipeline.prefHeld Pipeline.Prefetch.none c (fun _ => fullShare.right) (fun k => k.elim0) ∗ Pipeline.scopedRest cfg0.spec c)
      ⊢ (dats m 0 c).Φ 0 := by
  rw [scopedRest0_eq]
  show _ ⊢ iprop(launched m c ∗ scratch c)
  unfold scratch
  iintro ⟨Hs, -, Hr⟩
  isplitl [Hs] <;> iassumption

theorem result_out (c : Dev nD) :
    (dats m 0 c).Φ (Fin.last cfg0.N) ⊢ iprop((result m c ∗ unscopedSems0 c) ∗ Pipeline.ownSems0 osem c ∗ Pipeline.scopedRest cfg0.spec c) := by
  rw [scopedRest0_eq]
  show iprop(zeros c ∗ result m c ∗ scratch c) ⊢ _
  rw [zeros_sems]
  unfold scratch
  iintro ⟨⟨Hown, Hun⟩, Hres, Hscr⟩
  isplitl [Hres Hun]
  · isplitl [Hres] <;> iassumption
  isplitl [Hown] <;> iassumption

/-! ## The run -/

set_option maxRecDepth 100000 in
/-- From any memory with every counter at zero, every execution of the kernel on the four devices ends; at the end every
    device's argument is unchanged, its result is right, and every counter is at zero. -/
theorem run_main : θ_run defs (onTc (τ := τ) (main (F := F))) ⟨m, fun _ => 0, ρ⟩ (fun r =>
    (∀ c : Dev nD, r.2.mem ((c : Thread nD τ).loc main_arg0) = xs m c ∧ Right m c (r.2.mem ((c : Thread nD τ).loc main_v1))) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := fun w => w.elim0) (hstage := fun w => w.elim0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := dealt m) (G' := ready m) (u₀ := ghost₀)
    (hu₀ := by
      unfold ghost₀
      iintro Hu
      ihave H := (ownU_pair _ _) $$ Hu
      icases H with ⟨HP, HX⟩
      imod (fund_mesh m) $$ HX with HG
      imodintro
      isplitl [HP] <;> iassumption)
    (hglob := set_up_all m)
    (hA := fun _ w => w.elim0) (hpf := fun _ k => k.elim0)
    (X := launched m) (Y := fun c => iprop(result m c ∗ unscopedSems0 c)) (Z := fun _ => iprop(emp))
    (hX := launched_intro m ρ) (hin := launched_in m) (hout := result_out m)
    (QY := fun c s => (s.mem ((c : Thread nD τ).loc main_arg0) = xs m c ∧ Right m c (s.mem ((c : Thread nD τ).loc main_v1)))
      ∧ ∀ sm : SemLoc sig, sm.isScoped .tc = false → s.sem ((c.tc : Thread nD τ), sm) = 0)
    (hY := fun c s => by
      iintro ⟨⟨Hr, Hu⟩, -, HSI⟩
      ihave H := (result_read m c s) $$ [Hr HSI]
      · isplitl [Hr] <;> iassumption
      icases H with ⟨%hr, HSI⟩
      imod (Pipeline.unscopedSems0_read (X := unscopedSems0 c) (c := c) fupd_intro s) $$ [Hu HSI] with ⟨%hu, HSI⟩
      · isplitl [Hu] <;> iassumption
      imodintro
      isplitr; · ipureintro; exact ⟨hr, hu⟩
      iexact HSI)
    (hQ := fun _ h hs => ⟨fun c => (h c).2.2.1, sem_eq_zero hs fun c => (h c).2.2.2⟩)

end Cert.MeshReduce

end
-- ==== Proof.Values.lean ====
/-
# What the result holds

With floats read as exact numbers, an element of a device's result is the sum of two devices' arguments at that element's
row and, of the columns, the half that the device keeps.
-/
module

public import proofs.«01_k».proof.Proof.Buffers
public import Idealize.ShloMosaic.Lib.Pointwise
public import Idealize.ShloMosaic.Lib.ValueLayout
public import Idealize.ShloMosaic.PureOps.Ideal

@[expose] public section

noncomputable section

namespace Cert.MeshReduce

open Cert.KernelIdeal Cert.KernelIdeal.Gen
open Idealize.ShloMosaic
open Idealize.ShloMosaic.TcCoe
open Idealize.SL Idealize.SL.Sem

variable (m : (ℓ : Loc nD τ sig) → Buf (Elt Ideal) ℓ) (c : Dev nD)

/-! ## One chunk -/

/-- What a device sends its column neighbour is the chunk it read, -/
theorem sy_ideal (k : Fin 8) (i : S64x512.Idx) : sy m c k i = hp m c k i := by
  unfold sy unslab slab
  simp only [Shape.reshapeEquiv_symm]
  pointwise [k0_pay1]

/-- and the sum it makes is of the chunk it kept and of the chunk its column neighbour read for it. -/
theorem sx_ideal (k : Fin 8) (i : S64x512.Idx) :
    (sx m c k i : EReal) = (hm m c k i : EReal) + (hp m (peerY c) k i : EReal) := by
  rw [← sy_ideal]
  unfold sx unslab slab
  simp only [Shape.reshapeEquiv_symm]
  pointwise [k0_pay9]

/-! ## Where a chunk lies -/

/-- An element of a slab, by its coordinates. -/
theorem slab_coords (i : S64x512.Idx) (a : Fin 3) :
    (Shape.reshapeEquiv squeezes_S1x64x512_S64x512.numel_eq i a).val = ![0, (i 0).val, (i 1).val] a := by
  have h : Shape.reshapeEquiv squeezes_S1x64x512_S64x512.numel_eq i = ValueIdx.ix3 (⟨0, Nat.one_pos⟩ : Fin 1) (i 0 : Fin 64) (i 1 : Fin 512) :=
    (congrArg (Shape.reshapeEquiv squeezes_S1x64x512_S64x512.numel_eq) (ValueIdx.eq_ix2 i)).trans
      (ValueIdx.reshapeEquiv_ix2_1ab squeezes_S1x64x512_S64x512.numel_eq (i 0) (i 1))
  rw [h]
  fin_cases a <;> rfl

/-- The chunk read for the neighbour, element by element; -/
theorem hp_apply (k : Fin 8) (i : S64x512.Idx) (j : S1x1024x1024.Idx) (h₁ : (j 1).val = 512 * (c.val / 2) + 64 * k.val + (i 0).val)
    (h₂ : (j 2).val = 512 - 512 * (c.val % 2) + (i 1).val) : hp m c k i = xs m c j := by
  refine congrArg (xs m c) (funext fun a => Fin.ext ?_)
  show k0_off1 c (BitVec.ofNat 32 (64 * k.val)) a + 1 * (Shape.reshapeEquiv squeezes_S1x64x512_S64x512.numel_eq i a).val = (j a).val
  have h₀ : (j 0).val < 1 := (j 0).isLt
  rw [k0_off1_eq, slab_coords, Nat.one_mul]
  fin_cases a
  · show 0 + 0 = (j 0).val; omega
  · exact h₁.symm
  · exact h₂.symm

/-- the chunk kept; -/
theorem hm_apply (k : Fin 8) (i : S64x512.Idx) (j : S1x1024x1024.Idx) (h₁ : (j 1).val = 512 * (c.val / 2) + 64 * k.val + (i 0).val)
    (h₂ : (j 2).val = 512 * (c.val % 2) + (i 1).val) : hm m c k i = xs m c j := by
  refine congrArg (xs m c) (funext fun a => Fin.ext ?_)
  show k0_off2 c (BitVec.ofNat 32 (64 * k.val)) a + 1 * (Shape.reshapeEquiv squeezes_S1x64x512_S64x512.numel_eq i a).val = (j a).val
  have h₀ : (j 0).val < 1 := (j 0).isLt
  rw [k0_off2_eq, slab_coords, Nat.one_mul]
  fin_cases a
  · show 0 + 0 = (j 0).val; omega
  · exact h₁.symm
  · exact h₂.symm

/-- the chunk of the result in the device's own rows; -/
theorem outO_apply (g : Buf (Elt Ideal) ((c : Thread nD τ).loc main_v1)) (k : Fin 8) (i : S64x512.Idx) (j : S1024x512.Idx)
    (h₀ : (j 0).val = 512 * (c.val / 2) + 64 * k.val + (i 0).val) (h₁ : (j 1).val = (i 1).val) :
    (outO c k).view.read (Elt Ideal) g i = g j := by
  refine congrArg g (funext fun a => Fin.ext ?_)
  show k0_off3 c (BitVec.ofNat 32 (64 * k.val)) a + 1 * (i a).val = (j a).val
  rw [k0_off3_eq, Nat.one_mul]
  fin_cases a
  · exact h₀.symm
  · show 0 + (i 1).val = _; rw [Nat.zero_add]; exact h₁.symm

/-- and in the other rows. -/
theorem outX_apply (g : Buf (Elt Ideal) ((c : Thread nD τ).loc main_v1)) (k : Fin 8) (i : S64x512.Idx) (j : S1024x512.Idx)
    (h₀ : (j 0).val = 64 * k.val + 512 - 512 * (c.val / 2) + (i 0).val) (h₁ : (j 1).val = (i 1).val) :
    (outX c k).view.read (Elt Ideal) g i = g j := by
  refine congrArg g (funext fun a => Fin.ext ?_)
  show k0_off4 c (BitVec.ofNat 32 (64 * k.val)) a + 1 * (i a).val = (j a).val
  rw [k0_off4_eq, Nat.one_mul]
  fin_cases a
  · exact h₀.symm
  · show 0 + (i 1).val = _; rw [Nat.zero_add]; exact h₁.symm

/-! ## The whole result -/

/-- The element of the argument that goes into element `j` of the result of a device in `c`'s column. -/
def src (j : S1024x512.Idx) : S1x1024x1024.Idx :=
  ValueIdx.ix3 (⟨0, Nat.one_pos⟩ : Fin 1) (⟨(j 0).val, (j 0).isLt⟩ : Fin 1024)
    (⟨512 * (c.val % 2) + (j 1).val, by have h : (j 1).val < 512 := (j 1).isLt; omega⟩ : Fin 1024)

/-- An element of a device's argument, as a number. -/
def entry (j : S1x1024x1024.Idx) : EReal := xs m c j

/-- An element of a chunk sum: the device's argument and its column neighbour's, at the chunk's place. -/
theorem sx_apply (k : Fin 8) (i : S64x512.Idx) (j : S1024x512.Idx) (h₀ : (j 0).val = 512 * (c.val / 2) + 64 * k.val + (i 0).val)
    (h₁ : (j 1).val = (i 1).val) : (sx m c k i : EReal) = entry m c (src c j) + entry m (peerY c) (src c j) := by
  have hc : c.val < 4 := c.isLt
  rw [sx_ideal, hm_apply m c k i (src c j) h₀ (by show 512 * (c.val % 2) + (j 1).val = _; rw [h₁]),
    hp_apply m (peerY c) k i (src c j)
      (by show (j 0).val = 512 * ((2 * (c.val / 2) + 1 - c.val % 2) / 2) + _ + _; omega)
      (by show 512 * (c.val % 2) + (j 1).val = 512 - 512 * ((2 * (c.val / 2) + 1 - c.val % 2) % 2) + _; omega)]
  rfl

/-- The device that makes row `j` of `c`'s result: `c` itself, or its row neighbour. -/
def maker (j : S1024x512.Idx) : Dev nD := if (j 0).val / 512 = c.val / 2 then c else peerX c

/-- An element of a right result is the sum of its maker's argument and of the maker's column neighbour's. -/
theorem right_apply (g : Buf (Elt Ideal) ((c : Thread nD τ).loc main_v1)) (hg : Right m c g) (j : S1024x512.Idx) :
    (g j : EReal) = entry m (maker c j) (src c j) + entry m (peerY (maker c j)) (src c j) := by
  have hc : c.val < 4 := c.isLt
  have hj : (j 0).val < 1024 := (j 0).isLt
  let k : Fin 8 := ⟨(j 0).val % 512 / 64, by omega⟩
  let i : S64x512.Idx := ValueIdx.ix2 (⟨(j 0).val % 64, Nat.mod_lt _ (by decide)⟩ : Fin 64) (⟨(j 1).val, (j 1).isLt⟩ : Fin 512)
  have hi : (i 0).val = (j 0).val % 64 := rfl
  have hk : k.val = (j 0).val % 512 / 64 := rfl
  unfold maker
  split
  · rename_i h
    rw [← outO_apply c g k i j (by omega) rfl, (hg k).1, sx_apply m c k i j (by omega) rfl]
  · rename_i h
    have hx : (peerX c).val = c.val % 2 + 2 - 2 * (c.val / 2) := rfl
    have hs : src (peerX c) j = src c j := by
      unfold src; congr 2; rw [hx]; omega
    rw [← outX_apply c g k i j (by omega) rfl, (hg k).2, sx_apply m (peerX c) k i j (by omega) rfl, hs]

end Cert.MeshReduce

end
-- ==== Proof.Reference.lean ====
/-
# What the reference computes

The sum of the two parts of the whole array, element by element.
-/
module

public import proofs.«01_k».proof.Proof.Gen.ReferenceIdeal.Run
public import Idealize.ShloMosaic.Lib.Pointwise
public import Idealize.ShloMosaic.PureOps.Ideal

@[expose] public section

noncomputable section

namespace Cert.MeshReduce

open Cert.ReferenceIdeal Cert.ReferenceIdeal.Gen
open Idealize.ShloMosaic

/-- The reference's result of the whole array `X`. -/
def summed (X : FVec Ideal S2x1024x1024 .f32) : FVec Ideal S1024x1024 .bf16 :=
  truncf .bf16 (Host.reduceAdd X (constant S_ .f32 0x00000000#32) reducesTo_S2x1024x1024_S1024x1024_d0 h_S_) bitsLt_bf16_f32

/-- Element `j` of it is the sum of the two elements of `X` at `j`. -/
theorem summed_apply (X : FVec Ideal S2x1024x1024 .f32) (j : S1024x1024.Idx) :
    (summed X j : EReal) = X (ix3 0 (j 0) (j 1)) + X (ix3 1 (j 0) (j 1)) := by
  pointwise [summed]
  exact Fin.sum_univ_two _

end Cert.MeshReduce

end
-- ==== Proof.Equation.lean ====
/-
# The result is the device's half of the reference's

Of the whole array a device holds the part its column names, and of the result the half its column names. An element of its
result is the sum of the arguments of two neighbours in a row, which are the two parts.
-/
module

public import proofs.«01_k».proof.Proof.Values
public import proofs.«01_k».proof.Proof.Reference
public import Idealize.ShloMosaic.Lib.Layout

@[expose] public section

noncomputable section

namespace Cert.MeshReduce

open Cert.KernelIdeal Cert.KernelIdeal.Gen
open Idealize.ShloMosaic
open Idealize.ShloMosaic.TcCoe

/-- The devices hold their parts of the whole array `X`. -/
def Holds (m : (ℓ : Loc nD τ sig) → Buf (Elt Ideal) ℓ) (X : FVec Ideal Cert.ReferenceIdeal.S2x1024x1024 .f32) : Prop :=
  ∀ c : Dev nD, xs m c = Layout.blockN ⟨3, ![1, 1024, 1024]⟩ ⟨3, ![2, 1024, 1024]⟩ (Layout.meshBlock [2, 2] ![[1], [], []] c) X

/-- The column of a device, as the number of the part it holds. -/
def part (c : Dev nD) : Fin 2 := ⟨c.val % 2, Nat.mod_lt _ (by decide)⟩

theorem part_peerX (c : Dev nD) : part (peerX c) = part c := by revert c; decide

theorem part_maker (c : Dev nD) (j : S1024x512.Idx) : part (maker c j) = part c := by
  unfold maker
  split
  · rfl
  · exact part_peerX c

theorem part_peerY (c : Dev nD) : part (peerY c) = 1 - part c := by revert c; decide

/-- Element `j` of a device's half of the result, as an element of the whole result. -/
def spot (c : Dev nD) (j : S1024x512.Idx) : Cert.ReferenceIdeal.S1024x1024.Idx :=
  ix2 (⟨(j 0).val, (j 0).isLt⟩ : Fin 1024) (⟨512 * (c.val % 2) + (j 1).val, by have h : (j 1).val < 512 := (j 1).isLt; omega⟩ : Fin 1024)

/-- The column of a device, as the claim's layout reads it off the mesh. -/
theorem meshLin_col (c : Dev nD) : Layout.meshLin [2, 2] c.val [1] = c.val % 2 := by revert c; decide

variable (m : (ℓ : Loc nD τ sig) → Buf (Elt Ideal) ℓ) (X : FVec Ideal Cert.ReferenceIdeal.S2x1024x1024 .f32)

/-- A device's element is the whole array's, in the part of the device's column. -/
theorem entry_apply (hX : Holds m X) (c d : Dev nD) (j : S1024x512.Idx) :
    entry m d (src c j) = (X (ix3 (part d) (spot c j 0) (spot c j 1)) : EReal) := by
  unfold entry
  rw [hX d]
  refine congrArg X (funext fun a => Fin.ext ?_)
  fin_cases a
  · show Layout.meshLin [2, 2] d.val [1] * 1 + 0 = d.val % 2
    rw [meshLin_col]; omega
  · show 0 * 1024 + (j 0).val = (j 0).val
    omega
  · show 0 * 1024 + (512 * (c.val % 2) + (j 1).val) = 512 * (c.val % 2) + (j 1).val
    omega

/-- A right result is the device's half of the sum of the two parts. -/
theorem right_eq (hX : Holds m X) (c : Dev nD) (g : Buf (Elt Ideal) ((c : Thread nD τ).loc main_v1)) (hg : Right m c g) :
    g = Layout.blockN ⟨2, ![1024, 512]⟩ ⟨2, ![1024, 1024]⟩ (Layout.meshBlock [2, 2] ![[], [1]] c) (summed X) := by
  funext j
  have hs : (Layout.blockN ⟨2, ![1024, 512]⟩ ⟨2, ![1024, 1024]⟩ (Layout.meshBlock [2, 2] ![[], [1]] c) (summed X)) j = summed X (spot c j) := by
    refine congrArg (summed X) (funext fun a => Fin.ext ?_)
    fin_cases a
    · show 0 * 1024 + (j 0).val = (j 0).val
      omega
    · show Layout.meshLin [2, 2] c.val [1] * 512 + (j 1).val = 512 * (c.val % 2) + (j 1).val
      rw [meshLin_col]; omega
  rw [hs]
  refine (right_apply m c g hg j).trans ?_
  rw [entry_apply m X hX, entry_apply m X hX, part_peerY, part_maker]
  refine Eq.trans ?_ (summed_apply X (spot c j)).symm
  obtain h | h : part c = 0 ∨ part c = 1 := by generalize part c = p; revert p; decide
  · rw [h]; rfl
  · rw [h]; exact add_comm (_ : EReal) _

end Cert.MeshReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import proofs.«01_k».proof.Proof.Launch
public import proofs.«01_k».proof.Proof.Equation
public import Idealize.ShloMosaic.Lib.Quiescent
public import Idealize.ShloMosaic.Init

@[expose] public section

noncomputable section

namespace Cert.Proof

open Idealize.ShloMosaic Idealize.SL.Sem Cert.Kernel

/-- The program's frame: it runs, leaves its argument as it was, and every semaphore ends at zero. The run is proved of the
    other program's text, which is this one's. -/
theorem frame_kernel : Cert.quiescent_Kernel := fun m ρ _ =>
  (θ_run Cert.KernelIdeal.defs _ _).mono (fun _ h => ⟨fun c => (h.1 c).1, h.2⟩) (Cert.MeshReduce.run_main (F := Bits) m ρ)

/-- The same with floats read as exact numbers. -/
theorem frame_ideal : Cert.quiescent_KernelIdeal := fun m ρ _ =>
  (θ_run Cert.KernelIdeal.defs _ _).mono (fun _ h => ⟨fun c => (h.1 c).1, h.2⟩) (Cert.MeshReduce.run_main (F := Ideal) m ρ)

/-- The reference's frame; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends with its half of the columns of the reference's result, which is the sum of the whole array's two
    parts; neither program changes its argument. -/
theorem algebraic : Cert.algebraic_KernelIdeal_ReferenceIdeal := fun m ρ m' ρ' _ hX =>
  ⟨Cert.MeshReduce.summed (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨Cert.MeshReduce.right_eq m _ hX c _ (h.1 c).2, (h.1 c).1⟩)
      (Cert.MeshReduce.run_main (F := Ideal) m ρ),
    (θ_run Cert.ReferenceIdeal.defs _ _).mono (fun _ h => h 0) (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts, frame_kernel, frame_ideal,
    frame_reference, trivial, algebraic⟩

end Cert.Proof

end
